-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S1 : Shape := ⟨1, ![1]⟩
abbrev S512x2048 : Shape := ⟨2, ![512, 2048]⟩
abbrev S8x512x512 : Shape := ⟨3, ![8, 512, 512]⟩
abbrev S512x4096 : Shape := ⟨2, ![512, 4096]⟩
abbrev S6x512x2048 : Shape := ⟨3, ![6, 512, 2048]⟩
abbrev S7 : Shape := ⟨1, ![7]⟩
abbrev S6 : Shape := ⟨1, ![6]⟩
abbrev S8 : Shape := ⟨1, ![8]⟩
abbrev S_ : Shape := ⟨0, ![]⟩
abbrev S1x512x512 : Shape := ⟨3, ![1, 512, 512]⟩
abbrev S512x512 : Shape := ⟨2, ![512, 512]⟩
abbrev S1x512x2048 : Shape := ⟨3, ![1, 512, 2048]⟩

abbrev nBuf : Space → Nat
  | .hbm => 6
  | .vmem => 8
  | .smem => 2
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S512x2048, .bf16⟩
  | .hbm, ⟨5, _⟩ => ⟨S512x2048, .f32⟩
  | .local _ .vmem, ⟨0, _⟩ => ⟨S8x512x512, .f32⟩
  | .local _ .vmem, ⟨1, _⟩ => ⟨S8x512x512, .fp8e4m3⟩
  | .local _ .vmem, ⟨2, _⟩ => ⟨S512x4096, .fp8e4m3⟩
  | .local _ .vmem, ⟨3, _⟩ => ⟨S6x512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc1_stg0_0 : Ref sig .tc := ⟨.vmem, 6, rfl⟩
abbrev cc1_stg3_0 : Ref sig .tc := ⟨.vmem, 7, rfl⟩
abbrev cc1_stg1_0 : Ref sig .tc := ⟨.smem, 0, rfl⟩
abbrev cc1_stg2_0 : Ref sig .tc := ⟨.smem, 1, rfl⟩
abbrev cc1_sem0_0 : DmaSem sig := 29
abbrev cc1_sem1_0 : DmaSem sig := 30
abbrev cc1_sem2_0 : DmaSem sig := 31
abbrev cc1_sem3_0 : DmaSem sig := 32
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c0_i32
  let c1_i32_0 : BitVec 32 := 1#32
  let v4 : BitVec 32 := Scalar.addi v3 c1_i32_0
  let c8_i32_1 : BitVec 32 := 8#32
  let c0_i32_2 : BitVec 32 := 0#32
  let v5 : BitVec 1 := Scalar.cmpi .eq c8_i32_1 c0_i32_2
  let c1_i32_3 : BitVec 32 := 1#32
  let v6 : BitVec 32 := Scalar.select v5 c1_i32_3 c8_i32_1
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c512_i32 : BitVec 32 := 512#32
  let v15 : BitVec 32 := Scalar.muli v14 c512_i32
  let c0_i32_11 : BitVec 32 := 0#32
  ![v15.toNat, 0]
def k0_dev1 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_104 : BitVec 32 := 1#32
  let v148 : BitVec 32 := Scalar.addi v2 c1_i32_104
  let c8_i32_105 : BitVec 32 := 8#32
  let c0_i32_106 : BitVec 32 := 0#32
  let v149 : BitVec 1 := Scalar.cmpi .eq c8_i32_105 c0_i32_106
  let c1_i32_107 : BitVec 32 := 1#32
  let v150 : BitVec 32 := Scalar.select v149 c1_i32_107 c8_i32_105
  let v151 : BitVec 32 := Scalar.remsi v148 v150
  let c0_i32_109 : BitVec 32 := 0#32
  let v153 : BitVec 1 := Scalar.cmpi .slt v151 c0_i32_109
  let c0_i32_110 : BitVec 32 := 0#32
  let v154 : BitVec 1 := Scalar.cmpi .slt v150 c0_i32_110
  let v155 : BitVec 1 := Scalar.xori v153 v154
  let c0_i32_108 : BitVec 32 := 0#32
  let v152 : BitVec 1 := Scalar.cmpi .ne v151 c0_i32_108
  let v156 : BitVec 1 := Scalar.andi v155 v152
  let v157 : BitVec 32 := Scalar.addi v151 v150
  let v158 : BitVec 32 := Scalar.select v156 v157 v151
  let c1_i32_112 : BitVec 32 := 1#32
  let v159 : BitVec 32 := Scalar.muli v158 c1_i32_112
  let v160 : BitVec 32 := Scalar.addi c0_i32_113 v159
  v160.toNat
def k0_dev2 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_114 : BitVec 32 := 2#32
  let v161 : BitVec 32 := Scalar.addi v2 c2_i32_114
  let c8_i32_115 : BitVec 32 := 8#32
  let c0_i32_116 : BitVec 32 := 0#32
  let v162 : BitVec 1 := Scalar.cmpi .eq c8_i32_115 c0_i32_116
  let c1_i32_117 : BitVec 32 := 1#32
  let v163 : BitVec 32 := Scalar.select v162 c1_i32_117 c8_i32_115
  let v164 : BitVec 32 := Scalar.remsi v161 v163
  let c0_i32_119 : BitVec 32 := 0#32
  let v166 : BitVec 1 := Scalar.cmpi .slt v164 c0_i32_119
  let c0_i32_120 : BitVec 32 := 0#32
  let v167 : BitVec 1 := Scalar.cmpi .slt v163 c0_i32_120
  let v168 : BitVec 1 := Scalar.xori v166 v167
  let c0_i32_118 : BitVec 32 := 0#32
  let v165 : BitVec 1 := Scalar.cmpi .ne v164 c0_i32_118
  let v169 : BitVec 1 := Scalar.andi v168 v165
  let v170 : BitVec 32 := Scalar.addi v164 v163
  let v171 : BitVec 32 := Scalar.select v169 v170 v164
  let c1_i32_122 : BitVec 32 := 1#32
  let v172 : BitVec 32 := Scalar.muli v171 c1_i32_122
  let v173 : BitVec 32 := Scalar.addi c0_i32_123 v172
  v173.toNat
def k0_dev3 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_124 : BitVec 32 := 3#32
  let v174 : BitVec 32 := Scalar.addi v2 c3_i32_124
  let c8_i32_125 : BitVec 32 := 8#32
  let c0_i32_126 : BitVec 32 := 0#32
  let v175 : BitVec 1 := Scalar.cmpi .eq c8_i32_125 c0_i32_126
  let c1_i32_127 : BitVec 32 := 1#32
  let v176 : BitVec 32 := Scalar.select v175 c1_i32_127 c8_i32_125
  let v177 : BitVec 32 := Scalar.remsi v174 v176
  let c0_i32_129 : BitVec 32 := 0#32
  let v179 : BitVec 1 := Scalar.cmpi .slt v177 c0_i32_129
  let c0_i32_130 : BitVec 32 := 0#32
  let v180 : BitVec 1 := Scalar.cmpi .slt v176 c0_i32_130
  let v181 : BitVec 1 := Scalar.xori v179 v180
  let c0_i32_128 : BitVec 32 := 0#32
  let v178 : BitVec 1 := Scalar.cmpi .ne v177 c0_i32_128
  let v182 : BitVec 1 := Scalar.andi v181 v178
  let v183 : BitVec 32 := Scalar.addi v177 v176
  let v184 : BitVec 32 := Scalar.select v182 v183 v177
  let c1_i32_132 : BitVec 32 := 1#32
  let v185 : BitVec 32 := Scalar.muli v184 c1_i32_132
  let v186 : BitVec 32 := Scalar.addi c0_i32_133 v185
  v186.toNat
def k0_dev4 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_134 : BitVec 32 := 4#32
  let v187 : BitVec 32 := Scalar.addi v2 c4_i32_134
  let c8_i32_135 : BitVec 32 := 8#32
  let c0_i32_136 : BitVec 32 := 0#32
  let v188 : BitVec 1 := Scalar.cmpi .eq c8_i32_135 c0_i32_136
  let c1_i32_137 : BitVec 32 := 1#32
  let v189 : BitVec 32 := Scalar.select v188 c1_i32_137 c8_i32_135
  let v190 : BitVec 32 := Scalar.remsi v187 v189
  let c0_i32_139 : BitVec 32 := 0#32
  let v192 : BitVec 1 := Scalar.cmpi .slt v190 c0_i32_139
  let c0_i32_140 : BitVec 32 := 0#32
  let v193 : BitVec 1 := Scalar.cmpi .slt v189 c0_i32_140
  let v194 : BitVec 1 := Scalar.xori v192 v193
  let c0_i32_138 : BitVec 32 := 0#32
  let v191 : BitVec 1 := Scalar.cmpi .ne v190 c0_i32_138
  let v195 : BitVec 1 := Scalar.andi v194 v191
  let v196 : BitVec 32 := Scalar.addi v190 v189
  let v197 : BitVec 32 := Scalar.select v195 v196 v190
  let c1_i32_142 : BitVec 32 := 1#32
  let v198 : BitVec 32 := Scalar.muli v197 c1_i32_142
  let v199 : BitVec 32 := Scalar.addi c0_i32_143 v198
  v199.toNat
def k0_dev5 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_144 : BitVec 32 := 5#32
  let v200 : BitVec 32 := Scalar.addi v2 c5_i32_144
  let c8_i32_145 : BitVec 32 := 8#32
  let c0_i32_146 : BitVec 32 := 0#32
  let v201 : BitVec 1 := Scalar.cmpi .eq c8_i32_145 c0_i32_146
  let c1_i32_147 : BitVec 32 := 1#32
  let v202 : BitVec 32 := Scalar.select v201 c1_i32_147 c8_i32_145
  let v203 : BitVec 32 := Scalar.remsi v200 v202
  let c0_i32_149 : BitVec 32 := 0#32
  let v205 : BitVec 1 := Scalar.cmpi .slt v203 c0_i32_149
  let c0_i32_150 : BitVec 32 := 0#32
  let v206 : BitVec 1 := Scalar.cmpi .slt v202 c0_i32_150
  let v207 : BitVec 1 := Scalar.xori v205 v206
  let c0_i32_148 : BitVec 32 := 0#32
  let v204 : BitVec 1 := Scalar.cmpi .ne v203 c0_i32_148
  let v208 : BitVec 1 := Scalar.andi v207 v204
  let v209 : BitVec 32 := Scalar.addi v203 v202
  let v210 : BitVec 32 := Scalar.select v208 v209 v203
  let c1_i32_152 : BitVec 32 := 1#32
  let v211 : BitVec 32 := Scalar.muli v210 c1_i32_152
  let v212 : BitVec 32 := Scalar.addi c0_i32_153 v211
  v212.toNat
def k0_dev6 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_154 : BitVec 32 := 6#32
  let v213 : BitVec 32 := Scalar.addi v2 c6_i32_154
  let c8_i32_155 : BitVec 32 := 8#32
  let c0_i32_156 : BitVec 32 := 0#32
  let v214 : BitVec 1 := Scalar.cmpi .eq c8_i32_155 c0_i32_156
  let c1_i32_157 : BitVec 32 := 1#32
  let v215 : BitVec 32 := Scalar.select v214 c1_i32_157 c8_i32_155
  let v216 : BitVec 32 := Scalar.remsi v213 v215
  let c0_i32_159 : BitVec 32 := 0#32
  let v218 : BitVec 1 := Scalar.cmpi .slt v216 c0_i32_159
  let c0_i32_160 : BitVec 32 := 0#32
  let v219 : BitVec 1 := Scalar.cmpi .slt v215 c0_i32_160
  let v220 : BitVec 1 := Scalar.xori v218 v219
  let c0_i32_158 : BitVec 32 := 0#32
  let v217 : BitVec 1 := Scalar.cmpi .ne v216 c0_i32_158
  let v221 : BitVec 1 := Scalar.andi v220 v217
  let v222 : BitVec 32 := Scalar.addi v216 v215
  let v223 : BitVec 32 := Scalar.select v221 v222 v216
  let c1_i32_162 : BitVec 32 := 1#32
  let v224 : BitVec 32 := Scalar.muli v223 c1_i32_162
  let v225 : BitVec 32 := Scalar.addi c0_i32_163 v224
  v225.toNat
def k0_dev7 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_164 : BitVec 32 := 7#32
  let v226 : BitVec 32 := Scalar.addi v2 c7_i32_164
  let c8_i32_165 : BitVec 32 := 8#32
  let c0_i32_166 : BitVec 32 := 0#32
  let v227 : BitVec 1 := Scalar.cmpi .eq c8_i32_165 c0_i32_166
  let c1_i32_167 : BitVec 32 := 1#32
  let v228 : BitVec 32 := Scalar.select v227 c1_i32_167 c8_i32_165
  let v229 : BitVec 32 := Scalar.remsi v226 v228
  let c0_i32_169 : BitVec 32 := 0#32
  let v231 : BitVec 1 := Scalar.cmpi .slt v229 c0_i32_169
  let c0_i32_170 : BitVec 32 := 0#32
  let v232 : BitVec 1 := Scalar.cmpi .slt v228 c0_i32_170
  let v233 : BitVec 1 := Scalar.xori v231 v232
  let c0_i32_168 : BitVec 32 := 0#32
  let v230 : BitVec 1 := Scalar.cmpi .ne v229 c0_i32_168
  let v234 : BitVec 1 := Scalar.andi v233 v230
  let v235 : BitVec 32 := Scalar.addi v229 v228
  let v236 : BitVec 32 := Scalar.select v234 v235 v229
  let c1_i32_172 : BitVec 32 := 1#32
  let v237 : BitVec 32 := Scalar.muli v236 c1_i32_172
  let v238 : BitVec 32 := Scalar.addi c0_i32_173 v237
  v238.toNat
def k0_dev8 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_184 : BitVec 32 := 1#32
  let v250 : BitVec 32 := Scalar.addi v2 c1_i32_184
  let c8_i32_185 : BitVec 32 := 8#32
  let c0_i32_186 : BitVec 32 := 0#32
  let v251 : BitVec 1 := Scalar.cmpi .eq c8_i32_185 c0_i32_186
  let c1_i32_187 : BitVec 32 := 1#32
  let v252 : BitVec 32 := Scalar.select v251 c1_i32_187 c8_i32_185
  let v253 : BitVec 32 := Scalar.remsi v250 v252
  let c0_i32_189 : BitVec 32 := 0#32
  let v255 : BitVec 1 := Scalar.cmpi .slt v253 c0_i32_189
  let c0_i32_190 : BitVec 32 := 0#32
  let v256 : BitVec 1 := Scalar.cmpi .slt v252 c0_i32_190
  let v257 : BitVec 1 := Scalar.xori v255 v256
  let c0_i32_188 : BitVec 32 := 0#32
  let v254 : BitVec 1 := Scalar.cmpi .ne v253 c0_i32_188
  let v258 : BitVec 1 := Scalar.andi v257 v254
  let v259 : BitVec 32 := Scalar.addi v253 v252
  let v260 : BitVec 32 := Scalar.select v258 v259 v253
  let c1_i32_194 : BitVec 32 := 1#32
  let v261 : BitVec 32 := Scalar.muli v260 c1_i32_194
  let v262 : BitVec 32 := Scalar.addi c0_i32_195 v261
  v262.toNat
def k0_dev9 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_210 : BitVec 32 := 2#32
  let v281 : BitVec 32 := Scalar.addi v2 c2_i32_210
  let c8_i32_211 : BitVec 32 := 8#32
  let c0_i32_212 : BitVec 32 := 0#32
  let v282 : BitVec 1 := Scalar.cmpi .eq c8_i32_211 c0_i32_212
  let c1_i32_213 : BitVec 32 := 1#32
  let v283 : BitVec 32 := Scalar.select v282 c1_i32_213 c8_i32_211
  let v284 : BitVec 32 := Scalar.remsi v281 v283
  let c0_i32_215 : BitVec 32 := 0#32
  let v286 : BitVec 1 := Scalar.cmpi .slt v284 c0_i32_215
  let c0_i32_216 : BitVec 32 := 0#32
  let v287 : BitVec 1 := Scalar.cmpi .slt v283 c0_i32_216
  let v288 : BitVec 1 := Scalar.xori v286 v287
  let c0_i32_214 : BitVec 32 := 0#32
  let v285 : BitVec 1 := Scalar.cmpi .ne v284 c0_i32_214
  let v289 : BitVec 1 := Scalar.andi v288 v285
  let v290 : BitVec 32 := Scalar.addi v284 v283
  let v291 : BitVec 32 := Scalar.select v289 v290 v284
  let c1_i32_220 : BitVec 32 := 1#32
  let v292 : BitVec 32 := Scalar.muli v291 c1_i32_220
  let v293 : BitVec 32 := Scalar.addi c0_i32_221 v292
  v293.toNat
def k0_dev10 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_235 : BitVec 32 := 3#32
  let v312 : BitVec 32 := Scalar.addi v2 c3_i32_235
  let c8_i32_236 : BitVec 32 := 8#32
  let c0_i32_237 : BitVec 32 := 0#32
  let v313 : BitVec 1 := Scalar.cmpi .eq c8_i32_236 c0_i32_237
  let c1_i32_238 : BitVec 32 := 1#32
  let v314 : BitVec 32 := Scalar.select v313 c1_i32_238 c8_i32_236
  let v315 : BitVec 32 := Scalar.remsi v312 v314
  let c0_i32_240 : BitVec 32 := 0#32
  let v317 : BitVec 1 := Scalar.cmpi .slt v315 c0_i32_240
  let c0_i32_241 : BitVec 32 := 0#32
  let v318 : BitVec 1 := Scalar.cmpi .slt v314 c0_i32_241
  let v319 : BitVec 1 := Scalar.xori v317 v318
  let c0_i32_239 : BitVec 32 := 0#32
  let v316 : BitVec 1 := Scalar.cmpi .ne v315 c0_i32_239
  let v320 : BitVec 1 := Scalar.andi v319 v316
  let v321 : BitVec 32 := Scalar.addi v315 v314
  let v322 : BitVec 32 := Scalar.select v320 v321 v315
  let c1_i32_245 : BitVec 32 := 1#32
  let v323 : BitVec 32 := Scalar.muli v322 c1_i32_245
  let v324 : BitVec 32 := Scalar.addi c0_i32_246 v323
  v324.toNat
def k0_dev11 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_260 : BitVec 32 := 4#32
  let v343 : BitVec 32 := Scalar.addi v2 c4_i32_260
  let c8_i32_261 : BitVec 32 := 8#32
  let c0_i32_262 : BitVec 32 := 0#32
  let v344 : BitVec 1 := Scalar.cmpi .eq c8_i32_261 c0_i32_262
  let c1_i32_263 : BitVec 32 := 1#32
  let v345 : BitVec 32 := Scalar.select v344 c1_i32_263 c8_i32_261
  let v346 : BitVec 32 := Scalar.remsi v343 v345
  let c0_i32_265 : BitVec 32 := 0#32
  let v348 : BitVec 1 := Scalar.cmpi .slt v346 c0_i32_265
  let c0_i32_266 : BitVec 32 := 0#32
  let v349 : BitVec 1 := Scalar.cmpi .slt v345 c0_i32_266
  let v350 : BitVec 1 := Scalar.xori v348 v349
  let c0_i32_264 : BitVec 32 := 0#32
  let v347 : BitVec 1 := Scalar.cmpi .ne v346 c0_i32_264
  let v351 : BitVec 1 := Scalar.andi v350 v347
  let v352 : BitVec 32 := Scalar.addi v346 v345
  let v353 : BitVec 32 := Scalar.select v351 v352 v346
  let c1_i32_270 : BitVec 32 := 1#32
  let v354 : BitVec 32 := Scalar.muli v353 c1_i32_270
  let v355 : BitVec 32 := Scalar.addi c0_i32_271 v354
  v355.toNat
def k0_dev12 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_285 : BitVec 32 := 5#32
  let v374 : BitVec 32 := Scalar.addi v2 c5_i32_285
  let c8_i32_286 : BitVec 32 := 8#32
  let c0_i32_287 : BitVec 32 := 0#32
  let v375 : BitVec 1 := Scalar.cmpi .eq c8_i32_286 c0_i32_287
  let c1_i32_288 : BitVec 32 := 1#32
  let v376 : BitVec 32 := Scalar.select v375 c1_i32_288 c8_i32_286
  let v377 : BitVec 32 := Scalar.remsi v374 v376
  let c0_i32_290 : BitVec 32 := 0#32
  let v379 : BitVec 1 := Scalar.cmpi .slt v377 c0_i32_290
  let c0_i32_291 : BitVec 32 := 0#32
  let v380 : BitVec 1 := Scalar.cmpi .slt v376 c0_i32_291
  let v381 : BitVec 1 := Scalar.xori v379 v380
  let c0_i32_289 : BitVec 32 := 0#32
  let v378 : BitVec 1 := Scalar.cmpi .ne v377 c0_i32_289
  let v382 : BitVec 1 := Scalar.andi v381 v378
  let v383 : BitVec 32 := Scalar.addi v377 v376
  let v384 : BitVec 32 := Scalar.select v382 v383 v377
  let c1_i32_295 : BitVec 32 := 1#32
  let v385 : BitVec 32 := Scalar.muli v384 c1_i32_295
  let v386 : BitVec 32 := Scalar.addi c0_i32_296 v385
  v386.toNat
def k0_dev13 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_310 : BitVec 32 := 6#32
  let v405 : BitVec 32 := Scalar.addi v2 c6_i32_310
  let c8_i32_311 : BitVec 32 := 8#32
  let c0_i32_312 : BitVec 32 := 0#32
  let v406 : BitVec 1 := Scalar.cmpi .eq c8_i32_311 c0_i32_312
  let c1_i32_313 : BitVec 32 := 1#32
  let v407 : BitVec 32 := Scalar.select v406 c1_i32_313 c8_i32_311
  let v408 : BitVec 32 := Scalar.remsi v405 v407
  let c0_i32_315 : BitVec 32 := 0#32
  let v410 : BitVec 1 := Scalar.cmpi .slt v408 c0_i32_315
  let c0_i32_316 : BitVec 32 := 0#32
  let v411 : BitVec 1 := Scalar.cmpi .slt v407 c0_i32_316
  let v412 : BitVec 1 := Scalar.xori v410 v411
  let c0_i32_314 : BitVec 32 := 0#32
  let v409 : BitVec 1 := Scalar.cmpi .ne v408 c0_i32_314
  let v413 : BitVec 1 := Scalar.andi v412 v409
  let v414 : BitVec 32 := Scalar.addi v408 v407
  let v415 : BitVec 32 := Scalar.select v413 v414 v408
  let c1_i32_320 : BitVec 32 := 1#32
  let v416 : BitVec 32 := Scalar.muli v415 c1_i32_320
  let v417 : BitVec 32 := Scalar.addi c0_i32_321 v416
  v417.toNat
def k0_dev14 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_335 : BitVec 32 := 7#32
  let v436 : BitVec 32 := Scalar.addi v2 c7_i32_335
  let c8_i32_336 : BitVec 32 := 8#32
  let c0_i32_337 : BitVec 32 := 0#32
  let v437 : BitVec 1 := Scalar.cmpi .eq c8_i32_336 c0_i32_337
  let c1_i32_338 : BitVec 32 := 1#32
  let v438 : BitVec 32 := Scalar.select v437 c1_i32_338 c8_i32_336
  let v439 : BitVec 32 := Scalar.remsi v436 v438
  let c0_i32_340 : BitVec 32 := 0#32
  let v441 : BitVec 1 := Scalar.cmpi .slt v439 c0_i32_340
  let c0_i32_341 : BitVec 32 := 0#32
  let v442 : BitVec 1 := Scalar.cmpi .slt v438 c0_i32_341
  let v443 : BitVec 1 := Scalar.xori v441 v442
  let c0_i32_339 : BitVec 32 := 0#32
  let v440 : BitVec 1 := Scalar.cmpi .ne v439 c0_i32_339
  let v444 : BitVec 1 := Scalar.andi v443 v440
  let v445 : BitVec 32 := Scalar.addi v439 v438
  let v446 : BitVec 32 := Scalar.select v444 v445 v439
  let c1_i32_345 : BitVec 32 := 1#32
  let v447 : BitVec 32 := Scalar.muli v446 c1_i32_345
  let v448 : BitVec 32 := Scalar.addi c0_i32_346 v447
  v448.toNat
def k0_off2 (d0 : Dev nD) (c0_i32_360 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v467 : BitVec 32 := Scalar.subi v2 c0_i32_360
  let c8_i32_361 : BitVec 32 := 8#32
  let c0_i32_362 : BitVec 32 := 0#32
  let v468 : BitVec 1 := Scalar.cmpi .eq c8_i32_361 c0_i32_362
  let c1_i32_363 : BitVec 32 := 1#32
  let v469 : BitVec 32 := Scalar.select v468 c1_i32_363 c8_i32_361
  let v470 : BitVec 32 := Scalar.remsi v467 v469
  let c0_i32_365 : BitVec 32 := 0#32
  let v472 : BitVec 1 := Scalar.cmpi .slt v470 c0_i32_365
  let c0_i32_366 : BitVec 32 := 0#32
  let v473 : BitVec 1 := Scalar.cmpi .slt v469 c0_i32_366
  let v474 : BitVec 1 := Scalar.xori v472 v473
  let c0_i32_364 : BitVec 32 := 0#32
  let v471 : BitVec 1 := Scalar.cmpi .ne v470 c0_i32_364
  let v475 : BitVec 1 := Scalar.andi v474 v471
  let v476 : BitVec 32 := Scalar.addi v470 v469
  let v477 : BitVec 32 := Scalar.select v475 v476 v470
  let c512_i32_367 : BitVec 32 := 512#32
  let v478 : BitVec 32 := Scalar.muli v477 c512_i32_367
  let c0_i32_372 : BitVec 32 := 0#32
  ![v478.toNat, 0]
abbrev grid1 : Pipeline.Grid := .none

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Protocol.lean ====
/-
  The exchange's protocol. Each of eight devices holds a column block of `x` and every row of `w`. It sends, for each
  other device, the rows of its block that the other device multiplies.

  Cells per device: the barrier (regular, unscoped), seven send cells, seven receive cells; step `k` (0 to 6) of device
  `c` copies to device `c + (k+1)`, completing its own send cell `k` and the peer's receive cell `k`.

  * Barrier, round 0: seven duties of one unit. Duty `k` on device `c` is paid by device `c + (k+1)`, which hands over
    block `k+1` of its landing buffer (the block that `c`'s step `k` writes) and the fact that round 0 of its receive
    cell `k` is reached.
  * Receive cell `k`, round 0: one duty of one block's credit, paid by the landing of step `k` of device `c - (k+1)`;
    it hands back block `k+1` of the landing buffer at the exact contents that landed.
  * Send cell `k`, round 0: one duty, paid by the departure; it hands back the staging slot.

  Levels: barrier 1, receive cells 2, everything else 0. At launch a device owes one unit to each other device's
  barrier and one block's credit to the receive cell of each other device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Tactic

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline library's copy (duties `Unit`), the exchange's (duties numbered by step), and the local copies' counters. -/
abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

/-! ## The peers -/

/-- The device step `k` of `c` copies to. -/
def fwd (c : Dev nD) (k : Fin 7) : Dev nD := ⟨(c.val + (k.val + 1)) % 8, Nat.mod_lt _ (by decide)⟩
/-- The device whose step `k` copies to `c`. -/
def bwd (c : Dev nD) (k : Fin 7) : Dev nD := ⟨(c.val + (7 - k.val)) % 8, Nat.mod_lt _ (by decide)⟩
/-- The barrier duty that `c` pays on `fwd c k`: the step at which that device copies back to `c`. -/
def opp (k : Fin 7) : Fin 7 := ⟨6 - k.val, by omega⟩

theorem opp_opp (k : Fin 7) : opp (opp k) = k := by revert k; decide
theorem bwd_fwd (c : Dev nD) (k : Fin 7) : bwd (fwd c k) k = c := by revert c k; decide
theorem fwd_bwd (c : Dev nD) (k : Fin 7) : fwd (bwd c k) k = c := by revert c k; decide
theorem fwd_opp (c : Dev nD) (k : Fin 7) : fwd (fwd c k) (opp k) = c := by revert c k; decide

/-- The eight-cycle's shift by `k + 1`, as a bijection of the devices. -/
def shift (k : Fin 7) : Dev nD ≃ Dev nD := ⟨fun c => fwd c k, fun c => bwd c k, fun c => bwd_fwd c k, fun c => fwd_bwd c k⟩

/-- What the signals' and the copies' device words name. -/
theorem sigDev0 (c : Dev nD) : (⟨k0_dev1 c, k0_dev1_lt c⟩ : Dev nD) = fwd c 0 := by revert c; decide +kernel
theorem sigDev1 (c : Dev nD) : (⟨k0_dev2 c, k0_dev2_lt c⟩ : Dev nD) = fwd c 1 := by revert c; decide +kernel
theorem sigDev2 (c : Dev nD) : (⟨k0_dev3 c, k0_dev3_lt c⟩ : Dev nD) = fwd c 2 := by revert c; decide +kernel
theorem sigDev3 (c : Dev nD) : (⟨k0_dev4 c, k0_dev4_lt c⟩ : Dev nD) = fwd c 3 := by revert c; decide +kernel
theorem sigDev4 (c : Dev nD) : (⟨k0_dev5 c, k0_dev5_lt c⟩ : Dev nD) = fwd c 4 := by revert c; decide +kernel
theorem sigDev5 (c : Dev nD) : (⟨k0_dev6 c, k0_dev6_lt c⟩ : Dev nD) = fwd c 5 := by revert c; decide +kernel
theorem sigDev6 (c : Dev nD) : (⟨k0_dev7 c, k0_dev7_lt c⟩ : Dev nD) = fwd c 6 := by revert c; decide +kernel
theorem cpyDev0 (c : Dev nD) : (⟨k0_dev8 c, k0_dev8_lt c⟩ : Dev nD) = fwd c 0 := by revert c; decide +kernel
theorem cpyDev1 (c : Dev nD) : (⟨k0_dev9 c, k0_dev9_lt c⟩ : Dev nD) = fwd c 1 := by revert c; decide +kernel
theorem cpyDev2 (c : Dev nD) : (⟨k0_dev10 c, k0_dev10_lt c⟩ : Dev nD) = fwd c 2 := by revert c; decide +kernel
theorem cpyDev3 (c : Dev nD) : (⟨k0_dev11 c, k0_dev11_lt c⟩ : Dev nD) = fwd c 3 := by revert c; decide +kernel
theorem cpyDev4 (c : Dev nD) : (⟨k0_dev12 c, k0_dev12_lt c⟩ : Dev nD) = fwd c 4 := by revert c; decide +kernel
theorem cpyDev5 (c : Dev nD) : (⟨k0_dev13 c, k0_dev13_lt c⟩ : Dev nD) = fwd c 5 := by revert c; decide +kernel
theorem cpyDev6 (c : Dev nD) : (⟨k0_dev14 c, k0_dev14_lt c⟩ : Dev nD) = fwd c 6 := by revert c; decide +kernel

/-! ## The memrefs -/

abbrev xM : Memref sig .tc .hbm S4096x512 .f32 := Memref.whole main_arg0
abbrev wM : Memref sig .tc .hbm S4096x2048 .f32 := Memref.whole main_arg1
abbrev oM : Memref sig .tc .hbm S512x2048 .bf16 := Memref.whole main_v1
abbrev xfM : Memref sig .tc .vmem S8x512x512 .f32 := Memref.whole cc0_scratch0
abbrev xbM : Memref sig .tc .vmem S8x512x512 .fp8e4m3 := Memref.whole cc0_scratch1
abbrev xgM : Memref sig .tc .vmem S512x4096 .fp8e4m3 := Memref.whole cc0_scratch2
abbrev wfM : Memref sig .tc .vmem S6x512x2048 .f32 := Memref.whole cc0_scratch3
abbrev acM : Memref sig .tc .vmem S512x2048 .f32 := Memref.whole cc0_scratch4
abbrev abM : Memref sig .tc .vmem S512x2048 .bf16 := Memref.whole cc0_scratch5

theorem inb_x8 (p : Fin 8) : ∀ a, (![p.val, 0, 0] : Fin 3 → Nat) a + S1x512x512.size a ≤ S8x512x512.size a := by revert p; decide
theorem inb_g8 (p : Fin 8) : ∀ a, (![0, 512 * p.val] : Fin 2 → Nat) a + S512x512.size a ≤ S512x4096.size a := by revert p; decide

/-- Slot `p` of the conversion buffer, of the staging buffer; block `p` of the landing buffer. -/
abbrev xfS (p : Fin 8) : Memref sig .tc .vmem S512x512 .f32 :=
  (xfM.slice (Rect.unit (s := S8x512x512) ![p.val, 0, 0] S1x512x512.size (inb_x8 p)) (fun _ => rfl)).squeeze S512x512 squeezes_S1x512x512_S512x512
abbrev xbS (p : Fin 8) : Memref sig .tc .vmem S512x512 .fp8e4m3 :=
  (xbM.slice (Rect.unit (s := S8x512x512) ![p.val, 0, 0] S1x512x512.size (inb_x8 p)) (fun _ => rfl)).squeeze S512x512 squeezes_S1x512x512_S512x512
abbrev xgB (p : Fin 8) : Memref sig .tc .vmem S512x512 .fp8e4m3 :=
  xgM.slice (Rect.unit (s := S512x4096) ![0, 512 * p.val] S512x512.size (inb_g8 p)) (fun _ => rfl)

/-- The rows of `x` that conversion `i` reads: device `c + (i+1)`'s. -/
abbrev xR (c : Dev nD) (i : Fin 8) : Memref sig .tc .hbm S512x512 .f32 :=
  xM.slice (Rect.unit (s := S4096x512) (k0_off1 c (BitVec.ofNat 32 i.val)) S512x512.size (k0_off1_inb c i)) (fun _ => rfl)

/-! ## The cells -/

abbrev barS : Sem sig := barrier0
def sendS (k : Fin 7) : DmaSem sig := ⟨k.val, by have := k.isLt; show k.val < 33; omega⟩
def recvS (k : Fin 7) : DmaSem sig := ⟨7 + k.val, by have := k.isLt; show 7 + k.val < 33; omega⟩

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- The credit of one block. -/
abbrev N : ℕ := (xgB 0).view.dmaCredit
theorem N_pos : 0 < N := View.dmaCredit_pos _ (by decide)

/-! ## Contents -/

/-- The block that device `d` sends at step `k`: its rows, narrowed. -/
def sent (d : Dev nD) (k : Fin 7) : FVec F S512x512 .fp8e4m3 :=
  truncf .fp8e4m3 ((xR d k.castSucc).view.read (Elt F) (m (d, main_arg0))) bitsLt_fp8e4m3_f32

/-- Block `p` of `c`'s landing buffer at contents whose block `p` is `v` (elsewhere nothing in particular). -/
abbrev gPut (c : Dev nD) (p : Fin 8) (v : FVec F S512x512 .fp8e4m3) : Buf (Elt F) ((xgB p).view.loc (c : Thread nD τ)) :=
  (xgB p).view.rep v

abbrev gPts (c : Dev nD) (p : Fin 8) (f : Buf (Elt F) ((xgB p).view.loc (c : Thread nD τ))) : sProp 𝕄 :=
  (xgB p).view.loc (c : Thread nD τ) ↦[(xgB p).view.set]{fullShare} f
abbrev bPts (c : Dev nD) (p : Fin 8) (f : Buf (Elt F) ((xbS p).view.loc (c : Thread nD τ))) : sProp 𝕄 :=
  (xbS p).view.loc (c : Thread nD τ) ↦[(xbS p).view.set]{fullShare} f

/-! ## The schedule -/

/-- What a semaphore is to the exchange: 0 the barrier, 1 a send cell, 2 a receive cell, 3 none of its. -/
def kind : SemLoc sig → ℕ
  | .reg _ => 0
  | .dma j => if j.val < 7 then 1 else if j.val < 14 then 2 else 3
/-- The step a send or receive cell is for. -/
def stepOf : SemLoc sig → Fin 7
  | .reg _ => 0
  | .dma j => ⟨j.val % 7, Nat.mod_lt _ (by decide)⟩

theorem kind_send (k : Fin 7) : kind (.dma (sendS k)) = 1 := by revert k; decide
theorem kind_recv (k : Fin 7) : kind (.dma (recvS k)) = 2 := by revert k; decide
theorem step_send (k : Fin 7) : stepOf (.dma (sendS k)) = k := by revert k; decide
theorem step_recv (k : Fin 7) : stepOf (.dma (recvS k)) = k := by revert k; decide

/-- Paid to `c`'s barrier by `fwd c k`: the block that `c`'s step `k` writes there, and that its receive cell is open. -/
def barPay (c : Dev nD) (k : Fin 7) : sProp 𝕄 :=
  iprop((∃ f, gPts (F := F) (fwd c k) k.succ f) ∗ reached ER (recvCell (fwd c k) k) 0)
/-- Paid to `c`'s receive cell `k` by the landing: the block, at what `bwd c k` sent. -/
def recvPay (c : Dev nD) (k : Fin 7) : sProp 𝕄 := gPts c k.succ (gPut c k.succ (sent m (bwd c k) k))
/-- Paid to `c`'s send cell `k` by the departure: the staging slot. -/
def sendPay (c : Dev nD) (k : Fin 7) : sProp 𝕄 := iprop(∃ f, bPts (F := F) c k.succ f)

/-- Round 0: seven duties on every barrier, one on every send and receive cell; nothing later, nothing elsewhere. -/
def exRd : Rounds.Schedule (GSem nD τ sig) (Fin 7) 𝕄 where
  duties g r := if r = 0 ∧ g.1.2 = .tc then (if kind g.2 = 0 then Finset.univ else if kind g.2 = 3 then ∅ else {0}) else ∅
  unitless _ := False
  amount g _ _ := if kind g.2 = 0 then 1 else N
  payload g _ k :=
    if kind g.2 = 0 then barPay g.1.1 k
    else if kind g.2 = 1 then sendPay g.1.1 (stepOf g.2)
    else if kind g.2 = 2 then recvPay m g.1.1 (stepOf g.2)
    else iprop(emp)
  amount_pos g _ _ _ := by
    by_cases h : kind g.2 = 0
    · rw [if_pos h]; exact Nat.one_pos
    · rw [if_neg h]; exact N_pos

instance exRd_payload_storable (g : GSem nD τ sig) (r : ℕ) (k : Fin 7) :
    BI.Storable (upEmb : UEmb _ 𝕄) ((exRd (F := F) m).payload g r k) := by
  show BI.Storable upEmb (if kind g.2 = 0 then barPay g.1.1 k else if kind g.2 = 1 then sendPay g.1.1 (stepOf g.2)
    else if kind g.2 = 2 then recvPay m g.1.1 (stepOf g.2) else iprop(emp))
  unfold barPay sendPay recvPay
  (repeat' split) <;> infer_instance

section Tables
variable (c : Dev nD) (k : Fin 7)

theorem duties_bar : (exRd (F := F) m).duties (barCell c) 0 = Finset.univ := by
  dsimp only [exRd]; rw [if_pos ⟨rfl, rfl⟩]; exact if_pos rfl
theorem duties_send : (exRd (F := F) m).duties (sendCell c k) 0 = {0} := by
  dsimp only [exRd]; rw [if_pos ⟨rfl, rfl⟩, if_neg (by rw [kind_send]; decide), if_neg (by rw [kind_send]; decide)]
theorem duties_recv : (exRd (F := F) m).duties (recvCell c k) 0 = {0} := by
  dsimp only [exRd]; rw [if_pos ⟨rfl, rfl⟩, if_neg (by rw [kind_recv]; decide), if_neg (by rw [kind_recv]; decide)]
theorem duties_later (g : GSem nD τ sig) : ∀ r, 1 ≤ r → (exRd (F := F) m).duties g r = ∅ :=
  fun r hr => by dsimp only [exRd]; rw [if_neg (fun h => by omega)]

theorem amount_bar (d : Fin 7) : (exRd (F := F) m).amount (barCell c) 0 d = 1 := by dsimp only [exRd]; exact if_pos rfl
theorem amount_send (d : Fin 7) : (exRd (F := F) m).amount (sendCell c k) 0 d = N := by
  dsimp only [exRd]; rw [if_neg (by rw [kind_send]; decide)]
theorem amount_recv (d : Fin 7) : (exRd (F := F) m).amount (recvCell c k) 0 d = N := by
  dsimp only [exRd]; rw [if_neg (by rw [kind_recv]; decide)]

theorem expect_bar : (exRd (F := F) m).expect (barCell c) 0 = 7 := by
  unfold Schedule.expect Schedule.amountOf; rw [duties_bar, Finset.sum_congr rfl fun d _ => amount_bar m c d]; rfl
theorem expect_send : (exRd (F := F) m).expect (sendCell c k) 0 = N := by
  unfold Schedule.expect Schedule.amountOf; rw [duties_send, Finset.sum_singleton, amount_send]
theorem expect_recv : (exRd (F := F) m).expect (recvCell c k) 0 = N := by
  unfold Schedule.expect Schedule.amountOf; rw [duties_recv, Finset.sum_singleton, amount_recv]

theorem payload_bar (d : Fin 7) : (exRd (F := F) m).payload (barCell c) 0 d = barPay c d := by dsimp only [exRd]; exact if_pos rfl
theorem payload_send (d : Fin 7) : (exRd (F := F) m).payload (sendCell c k) 0 d = sendPay c k := by
  dsimp only [exRd]; rw [if_neg (by rw [kind_send]; decide), if_pos (kind_send k), step_send]
theorem payload_recv (d : Fin 7) : (exRd (F := F) m).payload (recvCell c k) 0 d = recvPay m c k := by
  dsimp only [exRd]; rw [if_neg (by rw [kind_recv]; decide), if_neg (by rw [kind_recv]; decide), if_pos (kind_recv k), step_recv]

theorem rest_bar : bigSep ((exRd (F := F) m).duties (barCell c) 0 \ ∅) (fun d => (exRd (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_univ_eq_bigSepL [(0 : Fin 7), 1, 2, 3, 4, 5, 6] (by decide) (by decide)]
  simp only [payload_bar]; rfl
theorem rest_send : bigSep ((exRd (F := F) m).duties (sendCell c k) 0 \ ∅) (fun d => (exRd (F := F) m).payload (sendCell c k) 0 d) = sendPay c k := by
  rw [Finset.sdiff_empty, duties_send, bigSep_singleton, payload_send]
theorem rest_recv : bigSep ((exRd (F := F) m).duties (recvCell c k) 0 \ ∅) (fun d => (exRd (F := F) m).payload (recvCell c k) 0 d) = recvPay m c k := by
  rw [Finset.sdiff_empty, duties_recv, bigSep_singleton, payload_recv]

end Tables

/-! ## What each device owes; the levels -/

/-- The step that is next when `n + 1` of the seven are left. -/
def nextStep (n : ℕ) : Fin 7 := ⟨6 - n, by omega⟩

/-- The receive credits still owed when `n` copies are left: the last `n` steps'. -/
def oweR (c : Dev nD) : ℕ → CellTallies nD τ sig Unit
  | 0 => 0
  | n + 1 => oweR c n + tallyAt (recvCell (fwd c (nextStep n)) (nextStep n)) () N
/-- Everything owed when `n` signals are left: no copy has been started yet. -/
def oweB (c : Dev nD) : ℕ → CellTallies nD τ sig Unit
  | 0 => oweR c 7
  | n + 1 => oweB c n + tallyAt (barCell (fwd c (nextStep n))) () 1

/-- What device `c` owes at launch. -/
def O₀ (c : Dev nD) : CellTallies nD τ sig Unit := oweB c 7

def L (g : GSem nD τ sig) : Finset Unit := if g.1.2 = .tc then {()} else ∅
def lv (g : GSem nD τ sig) (_ : Unit) : ℕ := if kind g.2 = 0 then 1 else if kind g.2 = 2 then 2 else 0

theorem L_of_ne (g : GSem nD τ sig) (h : g.1.2 ≠ .tc) : L g = ∅ := if_neg h
theorem L_tc (c : Dev nD) (sm : SemLoc sig) : L ((c : Thread nD τ), sm) = {()} := if_pos rfl

/-- Receive credits are owed at TensorCore receive cells only. -/
theorem oweR_at (c : Dev nD) (n : ℕ) (g : GSem nD τ sig) (u : Unit) (h : 0 < oweR c n g u) : g.1.2 = .tc ∧ kind g.2 = 2 := by
  induction n with
  | zero => exact absurd h (Nat.lt_irrefl 0)
  | succ n ih =>
    by_cases h1 : 0 < oweR c n g u
    · exact ih h1
    · have h' : 0 < oweR c n g u + tallyAt (recvCell (fwd c (nextStep n)) (nextStep n)) () N g u := h
      rw [tallyAt_apply] at h'
      by_cases hg : g = recvCell (fwd c (nextStep n)) (nextStep n) ∧ u = ()
      · rw [hg.1]; exact ⟨rfl, kind_recv _⟩
      · rw [if_neg hg] at h'; omega

/-- A wait on a cell below the receive cells is allowed while receive credits are owed. -/
theorem mayWait_low (c : Dev nD) (s : SemLoc sig) (hs : kind s ≠ 2) (n : ℕ) :
    (levAts L lv : sProp 𝕄) ⊢ MayWait (c : Thread nD τ) s () (oweR c n) :=
  MayOwe.of_cut (L := L) (lev := lv) 1 (fun p hp => by rw [Finset.mem_singleton.mp hp, L_tc]; exact Finset.mem_singleton_self _)
    (fun g u hg => by rw [show L g = {()} from if_pos (oweR_at c n g u hg).1]; exact Finset.mem_singleton_self _)
    (fun p hp => by rw [Finset.mem_singleton.mp hp]; dsimp only [lv]; split; exact le_refl _; exact Nat.zero_le _)
    (fun g u hg => by
      have h2 := (oweR_at c n g u hg).2
      dsimp only [lv]; rw [if_neg (by rw [h2]; decide), if_pos h2]; decide)

end Cert.KernelIdeal.Exch

end
-- ==== Proof.Steps.lean ====
/-
  The exchange's steps, one lemma per kind of operation, at any step number `k`: the signal to a peer's barrier, the
  wait for seven on the own barrier, the copy to a peer, the waits for a landing and for a departure.
-/
module

public import proofs.«01_k».proof.Proof.Protocol
public import Idealize.ShloMosaic.Lib.Pipeline.Value

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)

abbrev 𝒱₀ : Variants := Variants.none

/-- What every device knows: the invariants of all the exchange's cells, and that every barrier is at round 0. -/
def records : sProp 𝕄 :=
  iprop(bigSep Finset.univ (fun d : Dev nD => iprop(cellInv ER (exRd m) (K (barCell d)) (barCell d) ∗ reached ER (barCell d) 0))
    ∗ bigSep Finset.univ (fun p : Dev nD × Fin 7 => cellInv ER (exRd m) (K (sendCell p.1 p.2)) (sendCell p.1 p.2))
    ∗ bigSep Finset.univ (fun p : Dev nD × Fin 7 => cellInv ER (exRd m) (K (recvCell p.1 p.2)) (recvCell p.1 p.2)))

instance records_persistent : BI.Persistent (records (F := F) m K) := by unfold records; infer_instance

theorem records_bar (d : Dev nD) : records m K ⊢ iprop(cellInv ER (exRd m) (K (barCell d)) (barCell d) ∗ reached ER (barCell d) 0) :=
  sep_elim_left.trans (bigSep_elim (Finset.mem_univ d))
theorem records_send (d : Dev nD) (k : Fin 7) : records m K ⊢ cellInv ER (exRd m) (K (sendCell d k)) (sendCell d k) :=
  sep_elim_right.trans (sep_elim_left.trans (bigSep_elim (Finset.mem_univ (d, k))))
theorem records_recv (d : Dev nD) (k : Fin 7) : records m K ⊢ cellInv ER (exRd m) (K (recvCell d k)) (recvCell d k) :=
  sep_elim_right.trans (sep_elim_right.trans (bigSep_elim (Finset.mem_univ (d, k))))

/-- The device's own send and receive cells are at round 0. -/
def openedFacts (c : Dev nD) : sProp 𝕄 :=
  bigSep Finset.univ (fun k : Fin 7 => iprop(reached ER (sendCell c k) 0 ∗ reached ER (recvCell c k) 0))

instance openedFacts_persistent (c : Dev nD) : BI.Persistent (openedFacts (F := F) c) := by unfold openedFacts; infer_instance

theorem openedFacts_at (c : Dev nD) (k : Fin 7) : openedFacts (F := F) c ⊢ iprop(reached ER (sendCell c k) 0 ∗ reached ER (recvCell c k) 0) :=
  bigSep_elim (Finset.mem_univ k)

theorem oweB_step (c : Dev nD) {j : ℕ} {k : Fin 7} (hj : nextStep j = k) :
    oweB c (j + 1) = oweB c j + tallyAt (barCell (fwd c k)) () 1 := by subst hj; rfl
theorem oweR_step (c : Dev nD) {j : ℕ} {k : Fin 7} (hj : nextStep j = k) :
    oweR c (j + 1) = oweR c j + tallyAt (recvCell (fwd c k) k) () N := by subst hj; rfl

theorem oweR_none (c : Dev nD) : oweR c 0 = 0 := rfl

/-- A staging slot, after a converted slot has been stored in it, reads the converted slot's contents narrowed. -/
theorem staged (p i : Fin 8) (D : Vec F S512x512 .f32) (b : xbM.view.ty.Contents (Elt F)) :
    (xbS p).view.read (Elt F) ((xbM.access (Rect.unit (s := S8x512x512) ![p.val, 0, 0] S1x512x512.size (inb_x8 p))).write (Elt F) b
        (k0_pay1 (xfM.view.readAt (Elt F) (Rect.unit (s := S8x512x512) ![i.val, 0, 0] S1x512x512.size (inb_x8 i)).toLoadRect
          ((xfS i).view.writes (Elt F) (xfS i).view.junk [⟨Rect.whole S512x512, D⟩]))) Finset.univ)
      = truncf .fp8e4m3 D bitsLt_fp8e4m3_f32 := by
  funext x
  have h1 := congrFun (View.read_write_univ (v := (xbM.access (Rect.unit (s := S8x512x512) ![p.val, 0, 0] S1x512x512.size (inb_x8 p)))) b
    (k0_pay1 (xfM.view.readAt (Elt F) (Rect.unit (s := S8x512x512) ![i.val, 0, 0] S1x512x512.size (inb_x8 i)).toLoadRect
          ((xfS i).view.writes (Elt F) (xfS i).view.junk [⟨Rect.whole S512x512, D⟩])))) (Shape.reshapeEquiv squeezes_S1x512x512_S512x512.numel_eq x)
  refine Eq.trans h1 ?_
  unfold k0_pay1
  have h2 : shapeCast S512x512 (xfM.view.readAt (Elt F) (Rect.unit (s := S8x512x512) ![i.val, 0, 0] S1x512x512.size (inb_x8 i)).toLoadRect
      ((xfS i).view.writes (Elt F) (xfS i).view.junk [⟨Rect.whole S512x512, D⟩])) shapeCasts_S1x512x512_S512x512 = D :=
    (Memref.read_squeeze_slice xfM (Rect.unit (s := S8x512x512) ![i.val, 0, 0] S1x512x512.size (inb_x8 i)) (fun _ => rfl)
      squeezes_S1x512x512_S512x512 shapeCasts_S1x512x512_S512x512 _).symm.trans (View.read_writes_whole (xfS i).view _ D)
  rw [h2]
  exact congrFun (shapeCast_shapeCast (truncf .fp8e4m3 D bitsLt_fp8e4m3_f32) shapeCasts_S512x512_S1x512x512 shapeCasts_S1x512x512_S512x512) x

section Steps

/-- The signal of step `k`: one unit to `fwd c k`'s barrier, handing over the block that this device's step `opp k`
    writes here. -/
theorem signal_step {α : Type} {Q : α → sProp 𝕄} {kk : PUnit → Prog (TpuEff nD τ sig (Elt F) Λ₀ .tc) α}
    (c n : Dev nD) (k : Fin 7) (hn : n = fwd c k) (j : ℕ) (hj : nextStep j = k) (p : Fin 8) (hp : (opp k).succ = p) (W : Waits sig Unit)
    (f : Buf (Elt F) ((xgB p).view.loc (c : Thread nD τ))) :
    records m K ⊢ iprop(openedFacts c -∗ owes (c : Thread nD τ) (oweB c (j + 1)) W
        -∗ dutyTok ER (barCell (fwd c k)) 0 (opp k) -∗ gPts c p f -∗ (owes (c : Thread nD τ) (oweB c j) W -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (n, Proc.tc) barS (1#32).toInt) kk) Q) := by
  subst hn hp
  iintro #HR #HO' HL Htok Hg Hk
  ihave #HB := (records_bar m K (fwd c k)) $$ HR
  icases HB with ⟨#HI, #Hr⟩
  ihave #HV := (openedFacts_at c (opp k)) $$ HO'
  icases HV with ⟨-, #Hv⟩
  iapply (Rounds.wp_signal 𝒱₀ ER (exRd m) (c : Thread nD τ) none (dst := (fwd c k : Thread nD τ)) (κ := K (barCell (fwd c k)))
      (d := opp k) (k' := 1) (by rw [duties_bar]; exact Finset.mem_univ _) (amount_bar m (fwd c k) (opp k)) () (O₀ := oweB c (j + 1)) (oweB c j) (oweB_step c hj))
    $$ [HL Htok Hg]
  · isplitr; · iexact HI
    isplitl [HL]; · iexact HL
    isplitl [Htok]; · iexact Htok
    isplitl [Hg]
    · rw [payload_bar]; unfold barPay; rw [fwd_opp]
      isplitl [Hg]; · iexists f; iexact Hg
      iexact Hv
    iexact Hr
  iexact Hk

/-- The wait for the seven units on the own barrier, receive credits of all seven steps owed. -/
theorem barrier_step {α : Type} {Q : α → sProp 𝕄} {kk : PUnit → Prog (TpuEff nD τ sig (Elt F) Λ₀ .tc) α}
    (c : Dev nD) (W : Waits sig Unit) :
    records m K ⊢ iprop(levAts L lv -∗ cred (tallyAt (barCell c) () 7) -∗ owes (c : Thread nD τ) (oweB c 0) W -∗ atPos ER (barCell c) 0 ∅ 0
        -∗ ((owes (c : Thread nD τ) (oweR c 7) (insert (.reg barS, ()) W) ∗ atPos ER (barCell c) 1 ∅ 0
              ∗ (barPay c 0 ∗ barPay c 1 ∗ barPay c 2 ∗ barPay c 3 ∗ barPay c 4 ∗ barPay c 5 ∗ barPay c 6))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.semWait barS (7#32).toInt) kk) Q) := by
  iintro #HR #Hlev Hc HO Hat Hk
  ihave #HB := (records_bar m K c) $$ HR
  icases HB with ⟨#HI, -⟩
  iapply (Rounds.wp_wait_rest_token 𝒱₀ ER (exRd m) (c : Thread nD τ) none (κ := K (barCell c))
      (wpE_semWait_eq 𝒱₀ (c : Thread nD τ) none Set.univ) (Set.mem_univ _) () (O := oweR c 7) (W := W) (R := 0) (m := 0) (T := ∅)
      (by rw [expect_bar]; decide)) $$ [Hc HO Hat]
  · isplitr; · iexact HI
    isplitl [Hc]; · iexact Hc
    isplitl [HO]; · iexact HO
    isplitr; · iapply (mayWait_low c (.reg barS) (by decide) 7); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The copy of step `k`: staging slot `k+1`, which holds what `sent` names, to block `k+1` of `fwd c k`'s landing
    buffer. -/
theorem copy_step {α : Type} {Q : α → sProp 𝕄} {kk : PUnit → Prog (TpuEff nD τ sig (Elt F) Λ₀ .tc) α}
    (c n : Dev nD) (k : Fin 7) (hn : n = fwd c k) (p : Fin 8) (hp : k.succ = p)
    {hsc : (xgB p : Memref sig (Dev.tc n : Thread nD τ).2.kind .vmem S512x512 .fp8e4m3).view.ref.isScScratch = false}
    {hsrc : (xbS p).view.WordExact} {hdst : (xgB p).view.WordExact}
    {hsem : DmaTarget.Typed .vmem (.dma (recvS k)) (.remote (Dev.tc n : Thread nD τ) (xgB p) (.dma (sendS k)) hsc)}
    (j : ℕ) (hj : nextStep j = k) (W : Waits sig Unit) (fs : Buf (Elt F) ((xbS p).view.loc (c : Thread nD τ)))
    (hread : (xbS p).view.read (Elt F) fs = sent m c k) :
    records m K ⊢ iprop(openedFacts c -∗ bPts c p fs -∗ barPay c k
        -∗ owes (c : Thread nD τ) (oweR c (j + 1)) W
        -∗ dutyTok ER (sendCell c k) 0 (0 : Fin 7) -∗ dutyTok ER (recvCell (fwd c k) k) 0 (0 : Fin 7)
        -∗ ((cred (tallyAt (sendCell c k) () N) ∗ owes (c : Thread nD τ) (oweR c j) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xbS p) (.remote (Dev.tc n : Thread nD τ) (xgB p) (.dma (sendS k)) hsc) (.dma (recvS k)) hsrc hdst hsem) kk) Q) := by
  subst hn hp
  iintro #HR #HO' Hb Hp HO HtS HtR Hk
  ihave #HIs := (records_send m K c k) $$ HR
  ihave #HIr := (records_recv m K (fwd c k) k) $$ HR
  ihave #HV := (openedFacts_at c k) $$ HO'
  icases HV with ⟨#Hs, -⟩
  unfold barPay
  icases Hp with ⟨⟨%fd, Hg⟩, #Hr⟩
  iapply (Rounds.wp_send_pointsTo 𝒱₀ ER (exRd m) (c : Thread nD τ) none (κ₁ := K (sendCell c k)) (κ₂ := K (recvCell (fwd c k) k))
      (r₁ := 0) (r₂ := 0) (d₁ := (0 : Fin 7)) (d₂ := (0 : Fin 7)) (fd := fd) (fs := fs) (q := fullShare)
      (by rw [duties_send]; exact Finset.mem_singleton_self _) (by rw [duties_recv]; exact Finset.mem_singleton_self _)
      () () N rfl (amount_send m c k 0) (amount_recv m (fwd c k) k 0) (O₀ := oweR c (j + 1)) (oweR c j) (oweR_step c hj) (W := W)
      (by rw [payload_send]; unfold sendPay; iintro H; iexists fs; iexact H)
      (by rw [payload_recv]; unfold recvPay; rw [bwd_fwd, ← hread]
          exact Entails.of_eq ((pointsTo_rep _ _ _ _).trans (by rw [View.read_write_univ]))))
    $$ [Hb Hg HO HtS HtR]
  · isplitr; · iexact HIs
    isplitr; · iexact HIr
    isplitl [Hb]; · iexact Hb
    isplitl [Hg]; · iexact Hg
    isplitl [HO]; · iexact HO
    isplitl [HtS]; · iexact HtS
    isplitr; · iexact Hs
    isplitl [HtR]; · iexact HtR
    iexact Hr
  iexact Hk

/-- The wait for the landing of `bwd c k`'s step `k`, nothing owed any more. -/
theorem landing_step {α : Type} {Q : α → sProp 𝕄} {kk : PUnit → Prog (TpuEff nD τ sig (Elt F) Λ₀ .tc) α}
    (c : Dev nD) (k : Fin 7) (p : Fin 8) (hp : k.succ = p) (W : Waits sig Unit)
    {hsrc : (xbS p).view.WordExact} {hdst : (xgB p).view.WordExact} :
    records m K ⊢ iprop(cred (tallyAt (recvCell c k) () N) -∗ owes (c : Thread nD τ) 0 W -∗ atPos ER (recvCell c k) 0 ∅ 0
        -∗ ((owes (c : Thread nD τ) 0 (insert (.dma (recvS k), ()) W) ∗ atPos ER (recvCell c k) 1 ∅ 0 ∗ gPts c p (gPut c p (sent m (bwd c k) k)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) (xbS p) (xgB p) hsrc hdst) kk) Q) := by
  subst hp
  iintro #HR Hc HO Hat Hk
  ihave #HI := (records_recv m K c k) $$ HR
  iapply (Rounds.wp_wait_rest_token 𝒱₀ ER (exRd m) (c : Thread nD τ) none (κ := K (recvCell c k)) (wpE_waitDma2_eq 𝒱₀ (c : Thread nD τ) none Set.univ) (Set.mem_univ _) ()
      (O := 0) (W := W) (R := 0) (m := 0) (T := ∅) (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_recv m c k).trans (by unfold recvPay; rfl))) $$ Hpay
  iapply Hk
  isplitl [HO]; · iexact HO
  isplitl [Hat]; · iexact Hat
  iexact Hp

/-- The wait for the departure of the own step `k`: the staging slot comes back. -/
theorem departure_step {α : Type} {Q : α → sProp 𝕄} {kk : PUnit → Prog (TpuEff nD τ sig (Elt F) Λ₀ .tc) α}
    (c : Dev nD) (k : Fin 7) (p : Fin 8) (hp : k.succ = p) (W : Waits sig Unit)
    {hsrc : (xgB p).view.WordExact} {hdst : (xbS p).view.WordExact} :
    records m K ⊢ iprop(cred (tallyAt (sendCell c k) () N) -∗ owes (c : Thread nD τ) 0 W -∗ atPos ER (sendCell c k) 0 ∅ 0
        -∗ ((owes (c : Thread nD τ) 0 (insert (.dma (sendS k), ()) W) ∗ atPos ER (sendCell c k) 1 ∅ 0 ∗ (∃ f, bPts (F := F) c p f))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) (xgB p) (xbS p) hsrc hdst) kk) Q) := by
  subst hp
  iintro #HR Hc HO Hat Hk
  ihave #HI := (records_send m K c k) $$ HR
  iapply (Rounds.wp_wait_rest_token 𝒱₀ ER (exRd m) (c : Thread nD τ) none (κ := K (sendCell c k)) (wpE_waitDma2_eq 𝒱₀ (c : Thread nD τ) none Set.univ) (Set.mem_univ _) ()
      (O := 0) (W := W) (R := 0) (m := 0) (T := ∅) (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_send m c k).trans (by unfold sendPay; rfl))) $$ Hpay
  iapply Hk
  isplitl [HO]; · iexact HO
  isplitl [Hat]; · iexact Hat
  iexact Hp

end Steps

end Cert.KernelIdeal.Exch

end
-- ==== Proof.Values.lean ====
/-
  What a device computes: the eight products of a landed block of `x` with its rows of `w`, and their sum. And what the
  loads of the run read: a landed block, a copied slice of `w`, the accumulator.
-/
module

public import proofs.«01_k».proof.Proof.Steps
public import Idealize.ShloMosaic.Lib.VecWindow

@[expose] public section

set_option maxRecDepth 16384
set_option backward.proofsInPublic true

noncomputable section

namespace Cert.KernelIdeal.Exch

open Cert.KernelIdeal Cert.KernelIdeal.Gen
open Idealize.ShloMosaic Idealize.ShloMosaic.TcCoe

variable {F : FTy → Type} [FloatOps F]
variable (m : (ℓ : Loc nD τ sig) → Buf (Elt F) ℓ)

theorem inb_w6 (s : Fin 6) : ∀ a, (![s.val, 0, 0] : Fin 3 → Nat) a + S1x512x2048.size a ≤ S6x512x2048.size a := by revert s; decide

/-- Slot `s` of the buffer that slices of `w` are copied to. -/
abbrev wfS (s : Fin 6) : Memref sig .tc .vmem S512x2048 .f32 :=
  (wfM.slice (Rect.unit (s := S6x512x2048) ![s.val, 0, 0] S1x512x2048.size (inb_w6 s)) (fun _ => rfl)).squeeze S512x2048 squeezes_S1x512x2048_S512x2048
/-- The rows of `w` that meet block `p` of the landing buffer: device `c - p`'s. -/
abbrev wR (c : Dev nD) (p : Fin 8) : Memref sig .tc .hbm S512x2048 .f32 :=
  wM.slice (Rect.unit (s := S4096x2048) (k0_off2 c (BitVec.ofNat 32 p.val)) S512x2048.size (k0_off2_inb c p)) (fun _ => rfl)

/-- Block `p` of `c`'s landing buffer: its own rows first, then what device `c - p` sent. -/
def gBlk (c : Dev nD) : Fin 8 → FVec F S512x512 .fp8e4m3 :=
  Fin.cons (truncf .fp8e4m3 ((xR c 7).view.read (Elt F) (m (c, main_arg0))) bitsLt_fp8e4m3_f32) fun k => sent m (bwd c k) k
/-- The rows of `w` that block `p` is multiplied with. -/
def wBlk (c : Dev nD) (p : Fin 8) : FVec F S512x2048 .f32 := (wR c p).view.read (Elt F) (m (c, main_arg1))
/-- A block of `x` times a block of `w` narrowed. -/
def prod (g : FVec F S512x512 .fp8e4m3) (w : FVec F S512x2048 .f32) : FVec F S512x2048 .f32 :=
  matmul dot_S512x512_S512x2048_S512x2048_1_0_0_1_n_n none g (truncf .fp8e4m3 w bitsLt_fp8e4m3_f32) (constant S512x2048 .f32 0x00000000#32)
/-- The accumulator after the products of blocks 0 to `n`. -/
def accV (c : Dev nD) : ℕ → FVec F S512x2048 .f32
  | 0 => prod (gBlk m c 0) (wBlk m c 0)
  | n + 1 => addf (accV c n) (prod (gBlk m c (Fin.ofNat 8 (n + 1))) (wBlk m c (Fin.ofNat 8 (n + 1))))
/-- What the first region leaves in its result: the sum of the eight products, narrowed. -/
def outV (c : Dev nD) : FVec F S512x2048 .bf16 := truncf .bf16 (accV m c 7) bitsLt_bf16_f32

theorem gBlk_zero (c : Dev nD) : gBlk m c 0 = truncf .fp8e4m3 ((xR c 7).view.read (Elt F) (m (c, main_arg0))) bitsLt_fp8e4m3_f32 := rfl
theorem gBlk_succ (c : Dev nD) (k : Fin 7) : gBlk m c k.succ = sent m (bwd c k) k := rfl

/-- The load of a slot that rows of `x` have been copied to reads those rows. -/
theorem loaded (i : Fin 8) (D : Vec F S512x512 .f32) :
    shapeCast S512x512 (xfM.view.readAt (Elt F) (Rect.unit (s := S8x512x512) ![i.val, 0, 0] S1x512x512.size (inb_x8 i)).toLoadRect
      ((xfS i).view.writes (Elt F) (xfS i).view.junk [⟨Rect.whole S512x512, D⟩])) shapeCasts_S1x512x512_S512x512 = D := by
  exact (Memref.read_squeeze_slice xfM (Rect.unit (s := S8x512x512) ![i.val, 0, 0] S1x512x512.size (inb_x8 i)) (fun _ => rfl)
    squeezes_S1x512x512_S512x512 shapeCasts_S1x512x512_S512x512 _).symm.trans (View.read_writes_whole (xfS i).view _ D)

/-- The own block of `x` is the loaded slot narrowed. -/
theorem own_block (v : Vec F S1x512x512 .f32) (D : FVec F S512x512 .f32) (h : shapeCast S512x512 v shapeCasts_S1x512x512_S512x512 = D) :
    k0_pay8 v = truncf .fp8e4m3 D bitsLt_fp8e4m3_f32 := by
  subst h
  exact shapeCast_self _ _

/-- The load of block `p` of the landing buffer, at contents whose block `p` is `v`, reads `v`. -/
theorem landed (c : Dev nD) (p : Fin 8) (v : FVec F S512x512 .fp8e4m3) :
    xgM.view.readAt (Elt F) (Rect.unit (s := S512x4096) ![0, 512 * p.val] S512x512.size (inb_g8 p)).toLoadRect ((xgB p).view.rep v) = v := by
  have h : ∀ f : xgM.view.ty.Contents (Elt F), xgM.view.readAt (Elt F) (Rect.unit (s := S512x4096) ![0, 512 * p.val] S512x512.size (inb_g8 p)).toLoadRect f = (xgB p).view.read (Elt F) f := fun _ => rfl
  exact Eq.trans (h _) (View.read_rep (Val := Elt F) (xgB p).view v)

/-- The load of slot `s`, after slices of `w` have been copied to it, reads the last of them. -/
theorem copied (s : Fin 6) (D : Vec F S512x2048 .f32) (L : List (View.Piece (Elt F) S512x2048 .f32)) :
    shapeCast S512x2048 (wfM.view.readAt (Elt F) (Rect.unit (s := S6x512x2048) ![s.val, 0, 0] S1x512x2048.size (inb_w6 s)).toLoadRect
      ((wfS s).view.writes (Elt F) (wfS s).view.junk (⟨Rect.whole S512x2048, D⟩ :: L))) shapeCasts_S1x512x2048_S512x2048 = D := by
  exact (Memref.read_squeeze_slice wfM (Rect.unit (s := S6x512x2048) ![s.val, 0, 0] S1x512x2048.size (inb_w6 s)) (fun _ => rfl)
    squeezes_S1x512x2048_S512x2048 shapeCasts_S1x512x2048_S512x2048 _).symm.trans (View.read_writes_full (wfS s).view _ _ D L)

section Payloads
variable (g : FVec F S512x512 .fp8e4m3) {w : Vec F S1x512x2048 .f32} {D : FVec F S512x2048 .f32} (a : FVec F S512x2048 .f32)
  (h : shapeCast S512x2048 w shapeCasts_S1x512x2048_S512x2048 = D)
include h

/-- What each store to the accumulator puts there: the first product, then the sum so far and one product more. -/
theorem first_product : k0_pay9 g w = prod g D := by subst h; exact shapeCast_self _ _
theorem next_product1 : k0_pay11 (k0_pay10 g w) a = addf a (prod g D) := by subst h; exact shapeCast_self _ _
theorem next_product2 : k0_pay13 (k0_pay12 g w a) = addf a (prod g D) := by subst h; exact shapeCast_self _ _
theorem next_product3 : k0_pay14 g w a = addf a (prod g D) := by subst h; exact shapeCast_self _ _
theorem next_product4 : k0_pay15 g w a = addf a (prod g D) := by subst h; exact shapeCast_self _ _
theorem next_product5 : k0_pay16 g w a = addf a (prod g D) := by subst h; exact shapeCast_self _ _
theorem next_product6 : k0_pay17 g w a = addf a (prod g D) := by subst h; exact shapeCast_self _ _
theorem next_product7 : k0_pay19 g (k0_pay18 w) (constant S512x2048 .f32 0x00000000#32) a = addf a (prod g D) := by
  subst h; exact shapeCast_self _ _

end Payloads

/-- The last store narrows the accumulator. -/
theorem narrowed (a : FVec F S512x2048 .f32) : k0_pay20 a = truncf .bf16 a bitsLt_bf16_f32 := shapeCast_self _ _

end Cert.KernelIdeal.Exch

end
-- ==== Proof.Pieces.lean ====
/-
  The scratch buffers as their slots, the two operands as eight read shares: how a device's buffers are cut for the run
  and put together again after it.
-/
module

public import proofs.«01_k».proof.Proof.Values
public import Idealize.ShloMosaic.Lib.Ring

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Chains of six, seven and eight -/

theorem sep6 (Φ : Fin 6 → sProp 𝕄) : bigSep Finset.univ Φ = iprop(Φ 0 ∗ Φ 1 ∗ Φ 2 ∗ Φ 3 ∗ Φ 4 ∗ Φ 5) := by
  rw [bigSep_univ_eq_bigSepL [(0 : Fin 6), 1, 2, 3, 4, 5] (by decide) (by decide)]; rfl
theorem sep7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [(0 : Fin 7), 1, 2, 3, 4, 5, 6] (by decide) (by decide)]; rfl
theorem sep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [(0 : Fin 8), 1, 2, 3, 4, 5, 6, 7] (by decide) (by decide)]; rfl

/-! ## The slots -/

theorem mem_xf (p : Fin 8) (i : S8x512x512.Idx) : i ∈ (xfS p).view.set ↔ (⟨(i 0).val, (i 0).isLt⟩ : Fin 8) = p := by
  have hs : (xfS p).view.set = _ := (View.set_reshape _ _).trans (View.set_slice_whole cc0_scratch0 _)
  rw [hs, Rect.mem_set_unit]
  have h1 := (i 1).isLt; have h2 := (i 2).isLt
  constructor
  · intro h; have h0 := h 0; apply Fin.ext
    have ha : p.val ≤ (i 0).val := h0.1
    have hb : (i 0).val < p.val + 1 := h0.2
    show (i 0).val = p.val; omega
  · intro h a; subst h
    fin_cases a
    · exact ⟨le_refl _, Nat.lt_succ_self _⟩
    · exact ⟨Nat.zero_le _, by show (i 1).val < 0 + 512; rw [Nat.zero_add]; exact h1⟩
    · exact ⟨Nat.zero_le _, by show (i 2).val < 0 + 512; rw [Nat.zero_add]; exact h2⟩

theorem mem_wf (p : Fin 6) (i : S6x512x2048.Idx) : i ∈ (wfS p).view.set ↔ (⟨(i 0).val, (i 0).isLt⟩ : Fin 6) = p := by
  have hs : (wfS p).view.set = _ := (View.set_reshape _ _).trans (View.set_slice_whole cc0_scratch3 _)
  rw [hs, Rect.mem_set_unit]
  have h1 := (i 1).isLt; have h2 := (i 2).isLt
  constructor
  · intro h; have h0 := h 0; apply Fin.ext
    have ha : p.val ≤ (i 0).val := h0.1
    have hb : (i 0).val < p.val + 1 := h0.2
    show (i 0).val = p.val; omega
  · intro h a; subst h
    fin_cases a
    · exact ⟨le_refl _, Nat.lt_succ_self _⟩
    · exact ⟨Nat.zero_le _, by show (i 1).val < 0 + 512; rw [Nat.zero_add]; exact h1⟩
    · exact ⟨Nat.zero_le _, by show (i 2).val < 0 + 2048; rw [Nat.zero_add]; exact h2⟩

theorem block_lt {n : ℕ} (h : n < 4096) : n / 512 < 8 := by omega

theorem mem_xg (p : Fin 8) (i : S512x4096.Idx) : i ∈ (xgB p).view.set ↔ (⟨(i 1).val / 512, block_lt (i 1).isLt⟩ : Fin 8) = p := by
  have hs : (xgB p).view.set = _ := View.set_slice_whole cc0_scratch2 _
  rw [hs, Rect.mem_set_unit]
  have h0 := (i 0).isLt
  have h1 : (i 1).val < 4096 := (i 1).isLt
  constructor
  · intro h; have h1 := h 1; apply Fin.ext
    have ha : 512 * p.val ≤ (i 1).val := h1.1
    have hb : (i 1).val < 512 * p.val + 512 := h1.2
    show (i 1).val / 512 = p.val; omega
  · intro h a; subst h
    fin_cases a
    · exact ⟨Nat.zero_le _, by show (i 0).val < 0 + 512; rw [Nat.zero_add]; exact h0⟩
    · exact ⟨by show 512 * ((i 1).val / 512) ≤ (i 1).val; omega, by show (i 1).val < 512 * ((i 1).val / 512) + 512; omega⟩

/-! ## Cutting and joining -/

section Cut
variable {ℓ : Loc nD τ sig} {B : Type} [Fintype B] [DecidableEq B] (I : B → Finset (Idx ℓ)) (r : Idx ℓ → B)
  (h : ∀ b i, i ∈ I b ↔ r i = b)
include h

theorem pieces_disjoint (b b' : B) (hb : b ≠ b') : Disjoint (I b) (I b') :=
  Finset.disjoint_left.mpr fun i hi hi' => hb (((h b i).mp hi).symm.trans ((h b' i).mp hi'))
theorem pieces_cover : Finset.univ.biUnion I = Finset.univ :=
  Finset.eq_univ_iff_forall.mpr fun i => Finset.mem_biUnion.mpr ⟨r i, Finset.mem_univ _, (h (r i) i).mpr rfl⟩

/-- A buffer each of whose indices lies in exactly one piece, at some contents, is its pieces, each at some contents; -/
theorem cut : iprop(∃ f : Buf (Elt F) ℓ, ℓ ↦{fullShare} f) ⊢ (bigSep Finset.univ (fun b => iprop(∃ f : Buf (Elt F) ℓ, ℓ ↦[I b]{fullShare} f)) : sProp 𝕄) := by
  exact exists_elim fun f => (Entails.of_eq (Ring.pointsTo_blocks I (pieces_disjoint I r h) (pieces_cover I r h) f)).trans
    (bigSep_mono fun b _ => exists_intro (Φ := fun f : Buf (Elt F) ℓ => iprop(ℓ ↦[I b]{fullShare} f)) f)
/-- and back. -/
theorem join (f₀ : Buf (Elt F) ℓ) : (bigSep Finset.univ (fun b => iprop(∃ f : Buf (Elt F) ℓ, ℓ ↦[I b]{fullShare} f)) : sProp 𝕄) ⊢ iprop(∃ f : Buf (Elt F) ℓ, ℓ ↦{fullShare} f) :=
  Ring.pointsTo_blocks_join_exists I (pieces_disjoint I r h) (pieces_cover I r h) f₀
end Cut

/-- A slot of the conversion buffer, of the buffer for `w`, at given contents. -/
abbrev xfPts (c : Dev nD) (p : Fin 8) (f : Buf (Elt F) ((xfS p).view.loc (c : Thread nD τ))) : sProp 𝕄 :=
  (xfS p).view.loc (c : Thread nD τ) ↦[(xfS p).view.set]{fullShare} f
abbrev wfPts (c : Dev nD) (p : Fin 6) (f : Buf (Elt F) ((wfS p).view.loc (c : Thread nD τ))) : sProp 𝕄 :=
  (wfS p).view.loc (c : Thread nD τ) ↦[(wfS p).view.set]{fullShare} f
/-- A buffer of device `c` at some contents. -/
abbrev some_ (c : Dev nD) (b : Ref sig .tc) : sProp 𝕄 := iprop(∃ f : Buf (Elt F) ((c : Thread nD τ).loc b), ((c : Thread nD τ).loc b) ↦{fullShare} f)

/-- All of a device's scratch, piece by piece. -/
def pieces (c : Dev nD) : sProp 𝕄 :=
  iprop(bigSep Finset.univ (fun p => iprop(∃ f, xfPts (F := F) c p f)) ∗ bigSep Finset.univ (fun p => iprop(∃ f, bPts (F := F) c p f))
    ∗ bigSep Finset.univ (fun p => iprop(∃ f, gPts (F := F) c p f)) ∗ bigSep Finset.univ (fun p => iprop(∃ f, wfPts (F := F) c p f))
    ∗ (∃ f : Buf (Elt F) (acM.view.loc (c : Thread nD τ)), acM.view.loc (c : Thread nD τ) ↦{fullShare} f)
    ∗ (∃ f : Buf (Elt F) (abM.view.loc (c : Thread nD τ)), abM.view.loc (c : Thread nD τ) ↦{fullShare} f))
/-- The same, buffer by buffer. -/
def scratch (c : Dev nD) : sProp 𝕄 :=
  iprop(some_ (F := F) c cc0_scratch0 ∗ some_ (F := F) c cc0_scratch1 ∗ some_ (F := F) c cc0_scratch2 ∗ some_ (F := F) c cc0_scratch3
    ∗ some_ (F := F) c cc0_scratch4 ∗ some_ (F := F) c cc0_scratch5)

/-- The index of the slot, or block, that an element lies in. -/
abbrev slot8 (i : S8x512x512.Idx) : Fin 8 := ⟨(i 0).val, (i 0).isLt⟩
abbrev slot6 (i : S6x512x2048.Idx) : Fin 6 := ⟨(i 0).val, (i 0).isLt⟩
abbrev block8 (i : S512x4096.Idx) : Fin 8 := ⟨(i 1).val / 512, block_lt (i 1).isLt⟩

theorem cut_xf (c : Dev nD) : some_ (F := F) c cc0_scratch0 ⊢ bigSep Finset.univ (fun p => iprop(∃ f, xfPts (F := F) c p f)) :=
  cut (ℓ := (c : Thread nD τ).loc cc0_scratch0) (fun p : Fin 8 => (xfS p).view.set) slot8 mem_xf
theorem cut_xb (c : Dev nD) : some_ (F := F) c cc0_scratch1 ⊢ bigSep Finset.univ (fun p => iprop(∃ f, bPts (F := F) c p f)) :=
  cut (ℓ := (c : Thread nD τ).loc cc0_scratch1) (fun p : Fin 8 => (xbS p).view.set) slot8 mem_xf
theorem cut_xg (c : Dev nD) : some_ (F := F) c cc0_scratch2 ⊢ bigSep Finset.univ (fun p => iprop(∃ f, gPts (F := F) c p f)) :=
  cut (ℓ := (c : Thread nD τ).loc cc0_scratch2) (fun p : Fin 8 => (xgB p).view.set) block8 mem_xg
theorem cut_wf (c : Dev nD) : some_ (F := F) c cc0_scratch3 ⊢ bigSep Finset.univ (fun p => iprop(∃ f, wfPts (F := F) c p f)) :=
  cut (ℓ := (c : Thread nD τ).loc cc0_scratch3) (fun p : Fin 6 => (wfS p).view.set) slot6 mem_wf
theorem join_xf (c : Dev nD) : bigSep Finset.univ (fun p => iprop(∃ f, xfPts (F := F) c p f)) ⊢ some_ (F := F) c cc0_scratch0 :=
  join (ℓ := (c : Thread nD τ).loc cc0_scratch0) (fun p : Fin 8 => (xfS p).view.set) slot8 mem_xf (xfS 0).view.junk
theorem join_xb (c : Dev nD) : bigSep Finset.univ (fun p => iprop(∃ f, bPts (F := F) c p f)) ⊢ some_ (F := F) c cc0_scratch1 :=
  join (ℓ := (c : Thread nD τ).loc cc0_scratch1) (fun p : Fin 8 => (xbS p).view.set) slot8 mem_xf (xbS 0).view.junk
theorem join_xg (c : Dev nD) : bigSep Finset.univ (fun p => iprop(∃ f, gPts (F := F) c p f)) ⊢ some_ (F := F) c cc0_scratch2 :=
  join (ℓ := (c : Thread nD τ).loc cc0_scratch2) (fun p : Fin 8 => (xgB p).view.set) block8 mem_xg (xgB 0).view.junk
theorem join_wf (c : Dev nD) : bigSep Finset.univ (fun p => iprop(∃ f, wfPts (F := F) c p f)) ⊢ some_ (F := F) c cc0_scratch3 :=
  join (ℓ := (c : Thread nD τ).loc cc0_scratch3) (fun p : Fin 6 => (wfS p).view.set) slot6 mem_wf (wfS 0).view.junk

/-- The buffers are their pieces, either way. -/
theorem scratch_cut (c : Dev nD) : scratch (F := F) c ⊢ pieces c := by
  unfold scratch pieces
  exact BIClass.sep_mono (cut_xf c) (BIClass.sep_mono (cut_xb c) (BIClass.sep_mono (cut_xg c) (BIClass.sep_mono (cut_wf c) (Entails.of_eq rfl))))
theorem scratch_join (c : Dev nD) : pieces (F := F) c ⊢ scratch c := by
  unfold scratch pieces
  exact BIClass.sep_mono (join_xf c) (BIClass.sep_mono (join_xb c) (BIClass.sep_mono (join_xg c) (BIClass.sep_mono (join_wf c) (Entails.of_eq rfl))))

/-! ## Read shares of the operands -/

abbrev xTok (c : Dev nD) (i : Fin 8) : sProp 𝕄 :=
  xM.view.loc (c : Thread nD τ) ↦{Transfers.shareTokN fullShare i.val} m (c, main_arg0)
abbrev wTok (c : Dev nD) (i : Fin 8) : sProp 𝕄 :=
  wM.view.loc (c : Thread nD τ) ↦{Transfers.shareTokN fullShare i.val} m (c, main_arg1)
/-- Eight read shares of the block of `x` and eight of `w`. -/
def reads (c : Dev nD) : sProp 𝕄 := iprop(bigSep Finset.univ (xTok m c) ∗ bigSep Finset.univ (wTok m c))
/-- What is left of the two operands beside them. -/
def readRest (c : Dev nD) : sProp 𝕄 :=
  iprop((xM.view.loc (c : Thread nD τ) ↦{Transfers.shareDrop fullShare 8} m (c, main_arg0))
    ∗ (wM.view.loc (c : Thread nD τ) ↦{Transfers.shareDrop fullShare 8} m (c, main_arg1)))

/-- A buffer whole is eight read shares and the rest. -/
theorem eight_shares (ℓ : Loc nD τ sig) (f : Buf (Elt F) ℓ) :
    (ℓ ↦{fullShare} f : sProp 𝕄) ⊣⊢ iprop((ℓ ↦{Transfers.shareDrop fullShare 8} f)
      ∗ bigSep Finset.univ (fun i : Fin 8 => iprop(ℓ ↦{Transfers.shareTokN fullShare i.val} f))) := by
  have h : bigSep (Finset.range 8) (fun i => (iprop(ℓ ↦{Transfers.shareTokN fullShare i} f) : sProp 𝕄))
      = bigSep Finset.univ (fun i : Fin 8 => iprop(ℓ ↦{Transfers.shareTokN fullShare i.val} f)) := by
    rw [sep8, bigSep_eq_bigSepL_of_eq [0, 1, 2, 3, 4, 5, 6, 7] (by decide) (by decide)]; rfl
  rw [← h]
  exact Transfers.pointsTo_toks_range fullShare 8

/-- The two operands whole are the sixteen read shares and the rest. -/
theorem reads_cut (c : Dev nD) :
    iprop((xM.view.loc (c : Thread nD τ) ↦{fullShare} m (c, main_arg0)) ∗ (wM.view.loc (c : Thread nD τ) ↦{fullShare} m (c, main_arg1)))
      ⊢ (iprop(readRest m c ∗ reads m c) : sProp 𝕄) := by
  unfold readRest reads
  exact (BIClass.sep_mono (eight_shares _ _).1 (eight_shares _ _).1).trans sep_sep_sep_comm.1
theorem reads_join (c : Dev nD) :
    (iprop(readRest m c ∗ reads m c) : sProp 𝕄)
      ⊢ iprop((xM.view.loc (c : Thread nD τ) ↦{fullShare} m (c, main_arg0)) ∗ (wM.view.loc (c : Thread nD τ) ↦{fullShare} m (c, main_arg1))) := by
  unfold readRest reads
  exact sep_sep_sep_comm.1.trans (BIClass.sep_mono (eight_shares _ _).2 (eight_shares _ _).2)

end Cert.KernelIdeal.Exch

end
-- ==== Proof.Body.lean ====
/-
  The first region's body, run once at a symbolic device: the seven signals, the wait for the peers, the eight
  conversions, the seven copies out, the eight slices of `w`, the eight products as the blocks land, and the result
  copied out. What it leaves in its result is `outV`.
-/
module

public import proofs.«01_k».proof.Proof.Pieces

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)

/-- A copy semaphore at rest. -/
abbrev sv (c : Dev nD) (j : DmaSem sig) : sProp 𝕄 := semVal ((c : Thread nD τ), SemLoc.dma j) 0
/-- The semaphores of the copies within a device: of `w`, of `x`, of the result. -/
def copySems (c : Dev nD) : sProp 𝕄 :=
  iprop((sv (F := F) c 14 ∗ sv (F := F) c 15 ∗ sv (F := F) c 16 ∗ sv (F := F) c 17 ∗ sv (F := F) c 18 ∗ sv (F := F) c 19)
    ∗ (sv (F := F) c 20 ∗ sv (F := F) c 21 ∗ sv (F := F) c 22 ∗ sv (F := F) c 23 ∗ sv (F := F) c 24 ∗ sv (F := F) c 25 ∗ sv (F := F) c 26 ∗ sv (F := F) c 27)
    ∗ sv (F := F) c 28)

/-- The right to the duties that `c` pays: a unit on each peer's barrier, its departures, its landings at the peers. -/
def tokens (c : Dev nD) : sProp 𝕄 :=
  iprop(bigSep Finset.univ (fun k : Fin 7 => dutyTok ER (barCell (fwd c k)) 0 (opp k))
    ∗ bigSep Finset.univ (fun k : Fin 7 => dutyTok ER (sendCell c k) 0 (0 : Fin 7))
    ∗ bigSep Finset.univ (fun k : Fin 7 => dutyTok ER (recvCell (fwd c k) k) 0 (0 : Fin 7)))
/-- What the peers owe `c`. -/
def credits (c : Dev nD) : sProp 𝕄 :=
  iprop(cred (tallyAt (barCell c) () 7) ∗ bigSep Finset.univ (fun k : Fin 7 => cred (tallyAt (recvCell c k) () N)))
/-- The device's own cells, all at round `r`. -/
def positions (c : Dev nD) (r : ℕ) : sProp 𝕄 :=
  iprop(atPos ER (barCell c) r ∅ 0 ∗ bigSep Finset.univ (fun k : Fin 7 => atPos ER (sendCell c k) r ∅ 0)
    ∗ bigSep Finset.univ (fun k : Fin 7 => atPos ER (recvCell c k) r ∅ 0))
/-- The region's result at given contents. -/
abbrev oPts (c : Dev nD) (v : Buf (Elt F) (oM.view.loc (c : Thread nD τ))) : sProp 𝕄 := oM.view.loc (c : Thread nD τ) ↦{fullShare} v

set_option maxHeartbeats 4000000 in
/-- The body, from round 0 of the exchange to round 1: the operands and the scratch come back, and the result holds `outV`. -/
theorem exchange (c : Dev nD) (W : Waits sig Unit) (fo : Buf (Elt F) (oM.view.loc (c : Thread nD τ))) :
    iprop((records m K ∗ openedFacts c ∗ levAts L lv) ∗ reads m c ∗ pieces c ∗ copySems c ∗ tokens c ∗ credits c ∗ positions c 0
      ∗ oPts c fo ∗ owes (c : Thread nD τ) (O₀ c) W)
    ⊢ wp frame (wpE (defs₀ (F := F)) 𝒱₀ (c : Thread nD τ) none) Set.univ (bodyAt0 t0_0)
        (fun _ => iprop(reads m c ∗ pieces c ∗ copySems c ∗ positions c 1 ∗ oPts c (outV m c) ∗ ∃ W', owes (c : Thread nD τ) 0 W')) := by
  unfold reads pieces copySems tokens credits positions O₀
  repeat rw [sep8]
  repeat rw [sep7]
  rw [sep6]
  iintro ⟨⟨#HR, #HO', #Hlev⟩, ⟨⟨Hx0, Hx1, Hx2, Hx3, Hx4, Hx5, Hx6, Hx7⟩, ⟨Hv0, Hv1, Hv2, Hv3, Hv4, Hv5, Hv6, Hv7⟩⟩,
    ⟨⟨⟨%f0, Hf0⟩, ⟨%f1, Hf1⟩, ⟨%f2, Hf2⟩, ⟨%f3, Hf3⟩, ⟨%f4, Hf4⟩, ⟨%f5, Hf5⟩, ⟨%f6, Hf6⟩, ⟨%f7, Hf7⟩⟩,
      ⟨⟨%b0, Hb0⟩, ⟨%b1, Hb1⟩, ⟨%b2, Hb2⟩, ⟨%b3, Hb3⟩, ⟨%b4, Hb4⟩, ⟨%b5, Hb5⟩, ⟨%b6, Hb6⟩, ⟨%b7, Hb7⟩⟩,
      ⟨⟨%g0, Hg0⟩, ⟨%g1, Hg1⟩, ⟨%g2, Hg2⟩, ⟨%g3, Hg3⟩, ⟨%g4, Hg4⟩, ⟨%g5, Hg5⟩, ⟨%g6, Hg6⟩, ⟨%g7, Hg7⟩⟩,
      ⟨⟨%w0, Hw0⟩, ⟨%w1, Hw1⟩, ⟨%w2, Hw2⟩, ⟨%w3, Hw3⟩, ⟨%w4, Hw4⟩, ⟨%w5, Hw5⟩⟩, ⟨%fa, Hac⟩, ⟨%fb, Hab⟩⟩,
    ⟨⟨Sw0, Sw1, Sw2, Sw3, Sw4, Sw5⟩, ⟨Sx0, Sx1, Sx2, Sx3, Sx4, Sx5, Sx6, Sx7⟩, So⟩,
    ⟨⟨Tb0, Tb1, Tb2, Tb3, Tb4, Tb5, Tb6⟩, ⟨Ts0, Ts1, Ts2, Ts3, Ts4, Ts5, Ts6⟩, ⟨Tr0, Tr1, Tr2, Tr3, Tr4, Tr5, Tr6⟩⟩,
    ⟨Cb, ⟨Cr0, Cr1, Cr2, Cr3, Cr4, Cr5, Cr6⟩⟩,
    ⟨Ab, ⟨As0, As1, As2, As3, As4, As5, As6⟩, ⟨Ar0, Ar1, Ar2, Ar3, Ar4, Ar5, Ar6⟩⟩, Hoo, HO⟩
  have hlow := mayWait_low (F := F) c
  sl_exec
  iapply (signal_step m K c _ 0 (sigDev0 c) 6 rfl 7 rfl W g7) $$ HR HO' HO Tb0 Hg7; iintro HO
  sl_exec
  iapply (signal_step m K c _ 1 (sigDev1 c) 5 rfl 6 rfl W g6) $$ HR HO' HO Tb1 Hg6; iintro HO
  sl_exec
  iapply (signal_step m K c _ 2 (sigDev2 c) 4 rfl 5 rfl W g5) $$ HR HO' HO Tb2 Hg5; iintro HO
  sl_exec
  iapply (signal_step m K c _ 3 (sigDev3 c) 3 rfl 4 rfl W g4) $$ HR HO' HO Tb3 Hg4; iintro HO
  sl_exec
  iapply (signal_step m K c _ 4 (sigDev4 c) 2 rfl 3 rfl W g3) $$ HR HO' HO Tb4 Hg3; iintro HO
  sl_exec
  iapply (signal_step m K c _ 5 (sigDev5 c) 1 rfl 2 rfl W g2) $$ HR HO' HO Tb5 Hg2; iintro HO
  sl_exec
  iapply (signal_step m K c _ 6 (sigDev6 c) 0 rfl 1 rfl W g1) $$ HR HO' HO Tb6 Hg1; iintro HO
  sl_exec
  iapply (barrier_step m K c W) $$ HR Hlev Cb HO Ab; iintro ⟨HO, Ab, Hp0, Hp1, Hp2, Hp3, Hp4, Hp5, Hp6⟩
  sl_exec (disch := decide)
  iapply (copy_step m K c _ 0 (cpyDev0 c) 1 rfl 6 rfl _ (exchange.sl.Hb1_w1 m c b1) (staged 1 0 _ b1)) $$ HR HO' Hb1 Hp0 HO Ts0 Tr0; iintro ⟨Cs0, HO⟩
  sl_exec (disch := decide)
  iapply (copy_step m K c _ 1 (cpyDev1 c) 2 rfl 5 rfl _ (exchange.sl.Hb2_w1 m c b2) (staged 2 1 _ b2)) $$ HR HO' Hb2 Hp1 HO Ts1 Tr1; iintro ⟨Cs1, HO⟩
  sl_exec (disch := decide)
  iapply (copy_step m K c _ 2 (cpyDev2 c) 3 rfl 4 rfl _ (exchange.sl.Hb3_w1 m c b3) (staged 3 2 _ b3)) $$ HR HO' Hb3 Hp2 HO Ts2 Tr2; iintro ⟨Cs2, HO⟩
  sl_exec (disch := decide)
  iapply (copy_step m K c _ 3 (cpyDev3 c) 4 rfl 3 rfl _ (exchange.sl.Hb4_w1 m c b4) (staged 4 3 _ b4)) $$ HR HO' Hb4 Hp3 HO Ts3 Tr3; iintro ⟨Cs3, HO⟩
  sl_exec (disch := decide)
  iapply (copy_step m K c _ 4 (cpyDev4 c) 5 rfl 2 rfl _ (exchange.sl.Hb5_w1 m c b5) (staged 5 4 _ b5)) $$ HR HO' Hb5 Hp4 HO Ts4 Tr4; iintro ⟨Cs4, HO⟩
  sl_exec (disch := decide)
  iapply (copy_step m K c _ 5 (cpyDev5 c) 6 rfl 1 rfl _ (exchange.sl.Hb6_w1 m c b6) (staged 6 5 _ b6)) $$ HR HO' Hb6 Hp5 HO Ts5 Tr5; iintro ⟨Cs5, HO⟩
  sl_exec (disch := decide)
  iapply (copy_step m K c _ 6 (cpyDev6 c) 7 rfl 0 rfl _ (exchange.sl.Hb7_w1 m c b7) (staged 7 6 _ b7)) $$ HR HO' Hb7 Hp6 HO Ts6 Tr6; iintro ⟨Cs6, HO⟩
  rw [oweR_none]
  sl_exec (disch := decide)
  iapply (landing_step m K c 0 1 rfl _) $$ HR Cr0 HO Ar0; iintro ⟨HO, Ar0, Hg1⟩
  sl_exec (disch := decide)
  iapply (landing_step m K c 1 2 rfl _) $$ HR Cr1 HO Ar1; iintro ⟨HO, Ar1, Hg2⟩
  sl_exec (disch := decide)
  iapply (landing_step m K c 2 3 rfl _) $$ HR Cr2 HO Ar2; iintro ⟨HO, Ar2, Hg3⟩
  sl_exec (disch := decide)
  iapply (landing_step m K c 3 4 rfl _) $$ HR Cr3 HO Ar3; iintro ⟨HO, Ar3, Hg4⟩
  sl_exec (disch := decide)
  iapply (landing_step m K c 4 5 rfl _) $$ HR Cr4 HO Ar4; iintro ⟨HO, Ar4, Hg5⟩
  sl_exec (disch := decide)
  iapply (landing_step m K c 5 6 rfl _) $$ HR Cr5 HO Ar5; iintro ⟨HO, Ar5, Hg6⟩
  sl_exec (disch := decide)
  iapply (landing_step m K c 6 7 rfl _) $$ HR Cr6 HO Ar6; iintro ⟨HO, Ar6, Hg7⟩
  sl_exec (disch := decide)
  iapply (departure_step m K c 0 1 rfl _) $$ HR Cs0 HO As0; iintro ⟨HO, As0, ⟨%e1, Hb1⟩⟩
  sl_exec (disch := decide)
  iapply (departure_step m K c 1 2 rfl _) $$ HR Cs1 HO As1; iintro ⟨HO, As1, ⟨%e2, Hb2⟩⟩
  sl_exec (disch := decide)
  iapply (departure_step m K c 2 3 rfl _) $$ HR Cs2 HO As2; iintro ⟨HO, As2, ⟨%e3, Hb3⟩⟩
  sl_exec (disch := decide)
  iapply (departure_step m K c 3 4 rfl _) $$ HR Cs3 HO As3; iintro ⟨HO, As3, ⟨%e4, Hb4⟩⟩
  sl_exec (disch := decide)
  iapply (departure_step m K c 4 5 rfl _) $$ HR Cs4 HO As4; iintro ⟨HO, As4, ⟨%e5, Hb5⟩⟩
  sl_exec (disch := decide)
  iapply (departure_step m K c 5 6 rfl _) $$ HR Cs5 HO As5; iintro ⟨HO, As5, ⟨%e6, Hb6⟩⟩
  sl_exec (disch := decide)
  iapply (departure_step m K c 6 7 rfl _) $$ HR Cs6 HO As6; iintro ⟨HO, As6, ⟨%e7, Hb7⟩⟩
  sl_exec (disch := decide)
  have h0 : exchange.sl.v633 m c = accV m c 0 := (View.readCov_full acM.view _ _ _ _).trans ((first_product _ (copied 0 _ _)).trans (congrArg (prod · _) (own_block _ _ (loaded 7 _))))
  have h1 : exchange.sl.v655 m c = accV m c 1 := (View.readCov_full acM.view _ _ _ _).trans ((next_product1 _ _ (copied 1 _ _)).trans (congr (congrArg addf h0) (congrArg (prod · _) (landed c 1 _))))
  have h2 : exchange.sl.v677 m c = accV m c 2 := (View.readCov_full acM.view _ _ _ _).trans ((next_product2 _ _ (copied 2 _ _)).trans (congr (congrArg addf h1) (congrArg (prod · _) (landed c 2 _))))
  have h3 : exchange.sl.v699 m c = accV m c 3 := (View.readCov_full acM.view _ _ _ _).trans ((next_product3 _ _ (copied 3 _ _)).trans (congr (congrArg addf h2) (congrArg (prod · _) (landed c 3 _))))
  have h4 : exchange.sl.v721 m c = accV m c 4 := (View.readCov_full acM.view _ _ _ _).trans ((next_product4 _ _ (copied 4 _ _)).trans (congr (congrArg addf h3) (congrArg (prod · _) (landed c 4 _))))
  have h5 : exchange.sl.v743 m c = accV m c 5 := (View.readCov_full acM.view _ _ _ _).trans ((next_product5 _ _ (copied 5 _ _)).trans (congr (congrArg addf h4) (congrArg (prod · _) (landed c 5 _))))
  have h6 : exchange.sl.v765 m c = accV m c 6 := (View.readCov_full acM.view _ _ _ _).trans ((next_product6 _ _ (copied 0 _ _)).trans (congr (congrArg addf h5) (congrArg (prod · _) (landed c 6 _))))
  have h7 : exchange.sl.v770 m c = accV m c 7 := (View.readCov_full acM.view _ _ _ _).trans ((next_product7 _ _ (copied 1 _ _)).trans (congr (congrArg addf h6) (congrArg (prod · _) (landed c 7 _))))
  have hv : exchange.sl.dma8 m c fb = outV m c :=
    (View.read_writes_full abM.view _ _ _ _).trans ((narrowed _).trans (congrArg (truncf .bf16 · bitsLt_bf16_f32) h7))
  have ho : View.write (Elt F) (Memref.whole main_v1).view fo (exchange.sl.dma8 m c fb) Finset.univ = outV m c :=
    (View.write_whole_univ (Val := Elt F) main_v1 fo _).trans hv
  ihave Hoo := (Entails.of_eq (congrArg (oPts c) ho)) $$ Hoo
  rw [wp_ret]
  imodintro
  iframe ∗
  isplitl [Hf0 Hf1 Hf2 Hf3 Hf4 Hf5 Hf6 Hf7 Hb0 Hb1 Hb2 Hb3 Hb4 Hb5 Hb6 Hb7 Hg0 Hg1 Hg2 Hg3 Hg4 Hg5 Hg6 Hg7 Hw0 Hw1 Hw2 Hw3 Hw4 Hw5 Hac Hab]
  · isplitl [Hf0 Hf1 Hf2 Hf3 Hf4 Hf5 Hf6 Hf7]
    · isplitl [Hf0]; · iexists _; iexact Hf0
      isplitl [Hf1]; · iexists _; iexact Hf1
      isplitl [Hf2]; · iexists _; iexact Hf2
      isplitl [Hf3]; · iexists _; iexact Hf3
      isplitl [Hf4]; · iexists _; iexact Hf4
      isplitl [Hf5]; · iexists _; iexact Hf5
      isplitl [Hf6]; · iexists _; iexact Hf6
      iexists _; iexact Hf7
    isplitl [Hb0 Hb1 Hb2 Hb3 Hb4 Hb5 Hb6 Hb7]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      iexists _; iexact Hb7
    isplitl [Hg0 Hg1 Hg2 Hg3 Hg4 Hg5 Hg6 Hg7]
    · isplitl [Hg0]; · iexists _; iexact Hg0
      isplitl [Hg1]; · iexists _; iexact Hg1
      isplitl [Hg2]; · iexists _; iexact Hg2
      isplitl [Hg3]; · iexists _; iexact Hg3
      isplitl [Hg4]; · iexists _; iexact Hg4
      isplitl [Hg5]; · iexists _; iexact Hg5
      isplitl [Hg6]; · iexists _; iexact Hg6
      iexists _; iexact Hg7
    isplitl [Hw0 Hw1 Hw2 Hw3 Hw4 Hw5]
    · isplitl [Hw0]; · iexists _; iexact Hw0
      isplitl [Hw1]; · iexists _; iexact Hw1
      isplitl [Hw2]; · iexists _; iexact Hw2
      isplitl [Hw3]; · iexists _; iexact Hw3
      isplitl [Hw4]; · iexists _; iexact Hw4
      iexists _; iexact Hw5
    isplitl [Hac]; · iexists _; iexact Hac
    iexists _; iexact Hab
  isplitl [Sw0 Sw1 Sw2 Sw3 Sw4 Sw5 Sx0 Sx1 Sx2 Sx3 Sx4 Sx5 Sx6 Sx7 So]
  · isplitl [Sw0 Sw1 Sw2 Sw3 Sw4 Sw5]
    · isplitl [Sw0]; · iexact Sw0
      isplitl [Sw1]; · iexact Sw1
      isplitl [Sw2]; · iexact Sw2
      isplitl [Sw3]; · iexact Sw3
      isplitl [Sw4]; · iexact Sw4
      iexact Sw5
    isplitl [Sx0 Sx1 Sx2 Sx3 Sx4 Sx5 Sx6 Sx7]
    · isplitl [Sx0]; · iexact Sx0
      isplitl [Sx1]; · iexact Sx1
      isplitl [Sx2]; · iexact Sx2
      isplitl [Sx3]; · iexact Sx3
      isplitl [Sx4]; · iexact Sx4
      isplitl [Sx5]; · iexact Sx5
      isplitl [Sx6]; · iexact Sx6
      iexact Sx7
    iexact So
  iexists _; iexact HO

end Cert.KernelIdeal.Exch

end
-- ==== Proof.Cells.lean ====
/-
  The first region's own semaphores: at its entry every send and receive cell is opened on a counter at zero, at its exit
  every cell, the barrier's too, has run its one round and gives the counter back at zero.
-/
module

public import proofs.«01_k».proof.Proof.Body
public import Idealize.ShloMosaic.Lib.Pipeline.Regions
public import Idealize.ShloMosaic.Lib.Pipeline.BigSepL

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : GSem nD τ sig → ℕ)

/-- The semaphores the first region may use: all but the four of the second region's pipeline. -/
abbrev osem0 (i : Fin 29) : SemLoc sig := .dma ⟨i.val, Nat.lt_trans i.isLt (by decide : 29 < 33)⟩

/-- They are the send cells, the receive cells, and those of the copies within the device. -/
theorem ownSems_eq (c : Dev nD) : (Pipeline.ownSems0 osem0 c : sProp 𝕄)
    = iprop(bigSep Finset.univ (fun k : Fin 7 => semVal (sendCell c k) 0) ∗ bigSep Finset.univ (fun k : Fin 7 => semVal (recvCell c k) 0)
        ∗ copySems (F := F) c) := by
  unfold Pipeline.ownSems0 copySems
  rw [bigSep_univ_eq_bigSepL (([0, 1, 2, 3, 4, 5, 6] : List (Fin 29)) ++ ([7, 8, 9, 10, 11, 12, 13] ++ (([14, 15, 16, 17, 18, 19])
    ++ ([20, 21, 22, 23, 24, 25, 26, 27] ++ [28])))) (by decide) (by decide), bigSepL_append, bigSepL_append, bigSepL_append, bigSepL_append, sep7, sep7]
  rfl

/-- What a device is given for the exchange before the region is entered: the cells' records, its position in the
    barrier's round, the right to open its own cells, its duties' rights, and what its peers owe it. -/
def given (c : Dev nD) : sProp 𝕄 :=
  iprop(∃ K, records m K ∗ (atPos ER (barCell c) 0 ∅ 0 ∗ bigSep Finset.univ (fun k : Fin 7 => openTok ER (sendCell c k))
    ∗ bigSep Finset.univ (fun k : Fin 7 => openTok ER (recvCell c k))) ∗ tokens c ∗ credits c)
/-- The same with the cells open. -/
def opened (c : Dev nD) : sProp 𝕄 :=
  iprop(∃ K, (records m K ∗ openedFacts c ∗ levAts L lv) ∗ positions c 0 ∗ tokens c ∗ credits c ∗ copySems c)

/-- A family of cells at rest is opened. -/
theorem open_family (g : Fin 7 → GSem nD τ sig) (hg : ∀ k, records m K ⊢ cellInv ER (exRd m) (K (g k)) (g k)) :
    iprop(records m K ∗ bigSep Finset.univ (fun k => openTok ER (g k)) ∗ bigSep Finset.univ (fun k => semVal (g k) 0))
      ⊢ (|={Set.univ}=> iprop(bigSep Finset.univ (fun k => atPos ER (g k) 0 ∅ 0) ∗ bigSep Finset.univ (fun k => reached ER (g k) 0)) : sProp 𝕄) := by
  rw [← bigSep_sep', ← bigSep_sep']
  exact (bigSep_with_persistent fun k _ => (BIClass.sep_mono (hg k) .rfl).trans
    (Rounds.cell_open ER (exRd m) (g := g k) (Set.mem_univ (K (g k))))).trans (BI.bigSep_fupd _ _)

/-- A family of cells whose round is over is closed. -/
theorem close_family (g : Fin 7 → GSem nD τ sig) (hg : ∀ k, records m K ⊢ cellInv ER (exRd m) (K (g k)) (g k)) :
    iprop(records m K ∗ bigSep Finset.univ (fun k => atPos ER (g k) 1 ∅ 0))
      ⊢ (|={Set.univ}=> bigSep Finset.univ (fun k => semVal (g k) 0) : sProp 𝕄) :=
  (bigSep_with_persistent fun k _ => (BIClass.sep_mono (hg k) .rfl).trans
    (Rounds.cell_close ER (exRd m) (Set.mem_univ (K (g k))) id (duties_later m (g k)))).trans (BI.bigSep_fupd _ _)

/-- At the region's entry. -/
theorem opening (c : Dev nD) : iprop(given m c ∗ Pipeline.ownSems0 osem0 c ∗ levAts L lv) ⊢ (|={Set.univ}=> opened m c : sProp 𝕄) := by
  rw [ownSems_eq]
  unfold given opened positions openedFacts
  iintro ⟨⟨%K, #HR, ⟨Hb, HoS, HoV⟩, Ht, Hc⟩, ⟨HvS, HvV, Hcp⟩, #Hlev⟩
  imod (open_family m K (fun k => sendCell c k) (records_send m K c)) $$ [HoS HvS] with ⟨HaS, #HrS⟩
  · isplitr; · iexact HR
    isplitl [HoS] <;> iassumption
  imod (open_family m K (fun k => recvCell c k) (records_recv m K c)) $$ [HoV HvV] with ⟨HaV, #HrV⟩
  · isplitr; · iexact HR
    isplitl [HoV] <;> iassumption
  imodintro
  iexists K
  isplitr
  · isplitr; · iexact HR
    isplitr
    · rw [bigSep_sep']
      isplitr; · iexact HrS
      iexact HrV
    iexact Hlev
  isplitl [Hb HaS HaV]
  · isplitl [Hb]; · iexact Hb
    isplitl [HaS] <;> iassumption
  isplitl [Ht]; · iexact Ht
  isplitl [Hc] <;> iassumption

/-- At its exit. -/
theorem closing (c : Dev nD) : iprop(records m K ∗ positions c 1 ∗ copySems c)
    ⊢ (|={Set.univ}=> iprop(Pipeline.ownSems0 osem0 c ∗ semVal (barCell c) 0) : sProp 𝕄) := by
  rw [ownSems_eq]
  unfold positions
  iintro ⟨#HR, ⟨Hb, HaS, HaV⟩, Hcp⟩
  imod (close_family m K (fun k => sendCell c k) (records_send m K c)) $$ [HaS] with HvS
  · isplitr; · iexact HR
    iexact HaS
  imod (close_family m K (fun k => recvCell c k) (records_recv m K c)) $$ [HaV] with HvV
  · isplitr; · iexact HR
    iexact HaV
  ihave #HB := (records_bar m K c) $$ HR
  icases HB with ⟨#HI, -⟩
  imod (Rounds.cell_close ER (exRd m) (Set.mem_univ (K (barCell c))) id (duties_later m (barCell c))) $$ [Hb] with Hv
  · isplitr; · iexact HI
    iexact Hb
  imodintro
  isplitr [Hv]
  · isplitl [HvS]; · iexact HvS
    isplitl [HvV] <;> iassumption
  iexact Hv

end Cert.KernelIdeal.Exch

end
-- ==== Proof.Epilogue.lean ====
/-
  The second region: one point, four whole arrays. It widens the product, multiplies it by the two scales, clips it to
  [-60, 60] and multiplies it by the logistic of what was clipped.
-/
module

public import proofs.«01_k».proof.Proof.Cells

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The one index of a one-element array. -/
def only : S1.Idx := fun a => ⟨0, by revert a; decide⟩
theorem eq_only (i : S1.Idx) : i = only :=
  funext fun a => Fin.ext (by obtain rfl := Fin.fin_one_eq_zero a; exact Nat.lt_one_iff.mp (i 0).isLt)

/-- The result on device `c`. -/
def yV (c : Dev nD) : FVec F S512x2048 .f32 := k1_pay1 (outV m c) (m (c, main_arg2) only) (m (c, main_arg3) only)

/-- A staging buffer, whole, at given contents. -/
abbrev st0 (c : Dev nD) (f : Buf (Elt F) ((Memref.whole cc1_stg0_0).view.loc (c : Thread nD τ))) : sProp 𝕄 := (Memref.whole cc1_stg0_0).view.loc (c : Thread nD τ) ↦{fullShare} f
abbrev st1 (c : Dev nD) (f : Buf (Elt F) ((Memref.whole cc1_stg1_0).view.loc (c : Thread nD τ))) : sProp 𝕄 := (Memref.whole cc1_stg1_0).view.loc (c : Thread nD τ) ↦{fullShare} f
abbrev st2 (c : Dev nD) (f : Buf (Elt F) ((Memref.whole cc1_stg2_0).view.loc (c : Thread nD τ))) : sProp 𝕄 := (Memref.whole cc1_stg2_0).view.loc (c : Thread nD τ) ↦{fullShare} f
abbrev st3 (c : Dev nD) (f : Buf (Elt F) ((Memref.whole cc1_stg3_0).view.loc (c : Thread nD τ))) : sProp 𝕄 := (Memref.whole cc1_stg3_0).view.loc (c : Thread nD τ) ↦{fullShare} f

set_option maxHeartbeats 1000000 in
/-- The body on the four staging buffers. -/
theorem epilogue_run (c : Dev nD) (g0 : FVec F S512x2048 .bf16) (g1 g2 : FVec F S1 .f32) (g3 : FVec F S512x2048 .f32) :
    iprop(st0 c g0 ∗ st1 c g1 ∗ st2 c g2 ∗ st3 c g3)
    ⊢ wp frame (wpE (defs₀ (F := F)) 𝒱₀ (c : Thread nD τ) none) Set.univ (bodyAt1 t1_0)
        (fun _ => iprop(st0 c g0 ∗ st1 c g1 ∗ st2 c g2 ∗ st3 c (k1_pay1 g0 (g1 only) (g2 only)))) := by
  show _ ⊢ wp frame (wpE (defs₀ (F := F)) 𝒱₀ (c : Thread nD τ) none) Set.univ
    (cc1_epilogue (Memref.whole cc1_stg0_0) (Memref.isWhole_whole _) (Memref.whole cc1_stg1_0) (Memref.isWhole_whole _)
      (Memref.whole cc1_stg2_0) (Memref.isWhole_whole _) (Memref.whole cc1_stg3_0) (Memref.isWhole_whole _)) _
  rw [cc1_epilogue_eq_skeleton]
  unfold cc1_epilogue_skel
  iintro ⟨H0, H1, H2, H3⟩
  sl_exec
  have h0 : View.readAt (Elt F) (Memref.whole cc1_stg0_0).view (Rect.unit ![0, 0] S512x2048.size inb_S512x2048_S512x2048_0_0).toLoadRect g0 = g0 :=
    (View.readAt_full _ _ _).trans (View.read_whole _ _)
  have h1 : epilogue_run.sl.r g1 = g1 only := congrArg g1 (eq_only _)
  have h2 : epilogue_run.sl.r_1 g2 = g2 only := congrArg g2 (eq_only _)
  rw [h0, h1, h2, wp_ret]
  have h3 : (Memref.whole cc1_stg3_0).view.writes (Elt F) g3
      [⟨Rect.unit ![0, 0] S512x2048.size inb_S512x2048_S512x2048_0_0, k1_pay1 g0 (g1 only) (g2 only)⟩] = k1_pay1 g0 (g1 only) (g2 only) :=
    (View.read_whole (Val := Elt F) _ _).symm.trans (View.read_writes_full _ _ _ _ _)
  ihave H3 := (Entails.of_eq (congrArg (st3 c) h3)) $$ H3
  imodintro
  isplitl [H0]; · iexact H0
  isplitl [H1]; · iexact H1
  isplitl [H2] <;> iassumption

/-! ## The region's data -/

/-- The unscoped buffers after the first region, and after the second. -/
def W1 (c : Dev nD) : Valuation τ sig (Elt F) := Function.update (fun b => m (c, b)) (Proc.devRef .tc main_v1) (outV m c)
def W2 (c : Dev nD) : Valuation τ sig (Elt F) := Function.update (W1 m c) (Proc.devRef .tc main_v2) (yV m c)

theorem W1_v1 (c : Dev nD) : W1 m c (Proc.devRef .tc main_v1) = outV m c := Function.update_self _ _ _
theorem W1_of (c : Dev nD) (r : Ref sig .tc) (h : r ≠ main_v1) : W1 m c (Proc.devRef .tc r) = m (c, Proc.devRef .tc r) :=
  Function.update_of_ne (StableHlo.devRef_ne_of_ne h) _ _
theorem W2_v2 (c : Dev nD) : W2 m c (Proc.devRef .tc main_v2) = yV m c := Function.update_self _ _ _
theorem W2_of (c : Dev nD) (r : Ref sig .tc) (h : r ≠ main_v2) : W2 m c (Proc.devRef .tc r) = W1 m c (Proc.devRef .tc r) :=
  Function.update_of_ne (StableHlo.devRef_ne_of_ne h) _ _

/-- Three inputs, each at what its array holds, and the result. Nothing is owed; the scratch is not touched. -/
def dat1 (c : Dev nD) : Pipeline.Dat τ (Elt F) Unit ℕ UU ℕ cfg1 c where
  A := fun | 0 => W1 m c (Proc.devRef .tc main_v1) | 1 => W1 m c (Proc.devRef .tc main_arg2) | 2 => W1 m c (Proc.devRef .tc main_arg3)
           | 3 => W1 m c (Proc.devRef .tc main_v2) | ⟨_ + 4, h⟩ => absurd h (Nat.not_lt.2 (Nat.le_add_left _ _))
  after := fun w _ => match w with
           | 0 => W1 m c (Proc.devRef .tc main_v1) | 1 => W1 m c (Proc.devRef .tc main_arg2) | 2 => W1 m c (Proc.devRef .tc main_arg3)
           | 3 => yV m c | ⟨_ + 4, h⟩ => absurd h (Nat.not_lt.2 (Nat.le_add_left _ _))
  Φ _ := iprop(Pipeline.scopedRest spec1 c ∗ emp)
  q _ := fullShare
  owed _ := 0

/-- Each window's one block is its whole array. -/
theorem read_all0 (X : main_v1.ty.Contents (Elt F)) : ((cfg1.win 0).blk t1_0).view.read (Elt F) X = X :=
  funext fun i => congrArg X (funext fun a => Fin.ext (by fin_cases a <;> exact (Nat.zero_add _).trans (Nat.one_mul _)))
theorem read_all1 (X : main_arg2.ty.Contents (Elt F)) : ((cfg1.win 1).blk t1_0).view.read (Elt F) X = X :=
  funext fun i => congrArg X (funext fun a => Fin.ext (by fin_cases a <;> exact (Nat.zero_add _).trans (Nat.one_mul _)))
theorem read_all2 (X : main_arg3.ty.Contents (Elt F)) : ((cfg1.win 2).blk t1_0).view.read (Elt F) X = X :=
  funext fun i => congrArg X (funext fun a => Fin.ext (by fin_cases a <;> exact (Nat.zero_add _).trans (Nat.one_mul _)))
theorem emb_all3 (i : S512x2048.Idx) : ((cfg1.win 3).blk t1_0).view.emb i = i :=
  funext fun a => Fin.ext (by fin_cases a <;> exact (Nat.zero_add _).trans (Nat.one_mul _))

/-- Each input's staging buffer holds its array when the body runs. -/
theorem before0 (c : Dev nD) (d) : (dat1 m c).before 0 t1_0 d = W1 m c (Proc.devRef .tc main_v1) :=
  (Pipeline.Dat.before_fetched (dat1 m c) 0 t1_0 (fetch1_0 t1_0) d).trans (read_all0 (W1 m c (Proc.devRef .tc main_v1)))
theorem before1 (c : Dev nD) (d) : (dat1 m c).before 1 t1_0 d = W1 m c (Proc.devRef .tc main_arg2) :=
  (Pipeline.Dat.before_fetched (dat1 m c) 1 t1_0 (fetch1_1 t1_0) d).trans (read_all1 (W1 m c (Proc.devRef .tc main_arg2)))
theorem before2 (c : Dev nD) (d) : (dat1 m c).before 2 t1_0 d = W1 m c (Proc.devRef .tc main_arg3) :=
  (Pipeline.Dat.before_fetched (dat1 m c) 2 t1_0 (fetch1_2 t1_0) d).trans (read_all2 (W1 m c (Proc.devRef .tc main_arg3)))

/-- The result's array ends at the result. -/
theorem after3 (c : Dev nD) : (dat1 m c).arrAt 3 cfg1.N = yV m c := by
  have h : (dat1 m c).flushed 3 t1_0 = ((cfg1.win 3).blk t1_0).view.read (Elt F) (yV m c) :=
    funext fun i => (congrArg (yV m c) (emb_all3 i)).symm
  rw [show cfg1.N = t1_0.val + 1 from N_1, Pipeline.Dat.arrAt_succ, if_pos (flush1_3 t1_0), h, View.write_read_eq_piecewise]
  have hs : ((cfg1.win 3).blk t1_0).view.setOn Finset.univ = Finset.univ :=
    Finset.eq_univ_iff_forall.mpr fun i => (congrArg (· ∈ ((cfg1.win 3).blk t1_0).view.set) (emb_all3 i)).mp (View.emb_mem_set _ i)
  rw [hs]
  exact Finset.piecewise_univ _ _

theorem W1_scales (c : Dev nD) : k1_pay1 (W1 m c (Proc.devRef .tc main_v1)) (W1 m c (Proc.devRef .tc main_arg2) only)
    (W1 m c (Proc.devRef .tc main_arg3) only) = yV m c := by
  rw [W1_v1, W1_of m c main_arg2 (by decide), W1_of m c main_arg3 (by decide)]; rfl

/-- The body's obligation. -/
theorem body1 (c : Dev nD) : Pipeline.BodyObligation (dat1 m c) defs₀ 𝒱₀ () Set.univ := fun t => by
  obtain rfl := fin_N1 t
  rw [bigSep_W1, bigSep_W1]
  show iprop(iprop(Pipeline.scopedRest spec1 c ∗ emp) ∗ (dat1 m c).owesAt () t1_0.castSucc
      ∗ (∃ d, owns (c : Thread nD τ) (Memref.whole cc1_stg0_0) fullShare ((dat1 m c).before 0 t1_0 d))
      ∗ (∃ d, owns (c : Thread nD τ) (Memref.whole cc1_stg1_0) fullShare ((dat1 m c).before 1 t1_0 d))
      ∗ (∃ d, owns (c : Thread nD τ) (Memref.whole cc1_stg2_0) fullShare ((dat1 m c).before 2 t1_0 d))
      ∗ (∃ d, owns (c : Thread nD τ) (Memref.whole cc1_stg3_0) fullShare ((dat1 m c).before 3 t1_0 d)))
    ⊢ wp frame (wpE (defs₀ (F := F)) 𝒱₀ (c : Thread nD τ) none) Set.univ (bodyAt1 t1_0) (fun _ =>
      iprop(iprop(Pipeline.scopedRest spec1 c ∗ emp) ∗ (dat1 m c).owesAt () t1_0.castSucc
      ∗ owns (c : Thread nD τ) (Memref.whole cc1_stg0_0) fullShare (W1 m c (Proc.devRef .tc main_v1))
      ∗ owns (c : Thread nD τ) (Memref.whole cc1_stg1_0) fullShare (W1 m c (Proc.devRef .tc main_arg2))
      ∗ owns (c : Thread nD τ) (Memref.whole cc1_stg2_0) fullShare (W1 m c (Proc.devRef .tc main_arg3))
      ∗ owns (c : Thread nD τ) (Memref.whole cc1_stg3_0) fullShare (yV m c)))
  simp only [before0, before1, before2, owns_whole]
  iintro ⟨HΦ, HO, ⟨%d0, H0⟩, ⟨%d1, H1⟩, ⟨%d2, H2⟩, ⟨%d3, H3⟩⟩
  ihave Hw := (epilogue_run c _ _ _ _) $$ [H0 H1 H2 H3]
  · isplitl [H0]; · iexact H0
    isplitl [H1]; · iexact H1
    isplitl [H2] <;> iassumption
  iapply (wp_wand _ _ _) $$ Hw
  iintro %_ ⟨H0, H1, H2, H3⟩
  rw [W1_scales]
  isplitl [HΦ]; · iexact HΦ
  isplitl [HO]; · iexact HO
  isplitl [H0]; · iexact H0
  isplitl [H1]; · iexact H1
  isplitl [H2] <;> iassumption

end Cert.KernelIdeal.Exch

end
-- ==== Proof.Region0.lean ====
/-
  The first region as the pipeline's launch takes it: no window, one point; the exchange's state goes in with the three
  arrays left in HBM, and comes out with every semaphore at rest and the product in the third.
-/
module

public import proofs.«01_k».proof.Proof.Epilogue

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The unscoped buffers at launch. -/
def W0 (c : Dev nD) : Valuation τ sig (Elt F) := fun b => m (c, b)

/-- The arrays the body reads and writes where they lie. -/
def left : Finset (DevRef τ sig) := {Proc.devRef .tc main_arg0, Proc.devRef .tc main_arg1, Proc.devRef .tc main_v1}

theorem left_sub : left ⊆ Pipeline.ucRefs τ sig := by decide

theorem held_left (c : Dev nD) (V : Valuation τ sig (Elt F)) : (StableHlo.held (c : Thread nD τ) left V : sProp 𝕄)
    = iprop((xM.view.loc (c : Thread nD τ) ↦{fullShare} V (Proc.devRef .tc main_arg0)) ∗ (wM.view.loc (c : Thread nD τ) ↦{fullShare} V (Proc.devRef .tc main_arg1))
        ∗ oPts c (V (Proc.devRef .tc main_v1))) := by
  unfold StableHlo.held
  rw [bigSep_eq_bigSepL_of_eq [Proc.devRef .tc main_arg0, Proc.devRef .tc main_arg1, Proc.devRef .tc main_v1] (by decide) (by decide)]
  rfl

/-- The scratch that is no part of the exchange: the second region's staging buffers. -/
def others (c : Dev nD) : sProp 𝕄 :=
  iprop(some_ (F := F) c cc1_stg0_0 ∗ some_ (F := F) c cc1_stg3_0 ∗ some_ (F := F) c cc1_stg1_0 ∗ some_ (F := F) c cc1_stg2_0)

theorem scoped_eq (c : Dev nD) : (Pipeline.scopedRest (cfg0.spec) c : sProp 𝕄) = iprop(scratch (F := F) c ∗ others c) := by
  rw [scopedRest0_eq]; unfold scratch others
  have A (P Q R : sProp 𝕄) : iprop((P ∗ Q) ∗ R) = iprop(P ∗ Q ∗ R) := BI.equiv_iff.mp ⟨BI.sep_assoc, BI.sep_assoc'⟩
  simp only [A]
  try rfl

/-- Before the point, and after it. -/
def before_ (c : Dev nD) : sProp 𝕄 :=
  iprop(Pipeline.scopedRest (cfg0.spec) c ∗ (∃ r, prngReg c r) ∗ StableHlo.held (c : Thread nD τ) left (W0 m c) ∗ opened m c)
def after_ (c : Dev nD) : sProp 𝕄 :=
  iprop(Pipeline.scopedRest (cfg0.spec) c ∗ (∃ r, prngReg c r) ∗ StableHlo.held (c : Thread nD τ) left (W1 m c) ∗ Pipeline.ownSems0 osem0 c ∗ semVal (barCell c) 0)

/-- No windows: everything the point needs is in the invariant, and the whole of `O₀` is owed before it, nothing after. -/
def dat0 (c : Dev nD) : Pipeline.Dat τ (Elt F) Unit ℕ UU ℕ cfg0 c where
  A w := w.elim0
  after w := w.elim0
  Φ t := if t.val = 0 then before_ m c else after_ m c
  q w := w.elim0
  owed t := if t.val = 0 then O₀ c else 0

theorem inv_first (c : Dev nD) : (dat0 m c).Φ t0_0.castSucc = before_ m c := by
  show (if (t0_0.castSucc : Fin (cfg0.N + 1)).val = 0 then before_ m c else after_ m c) = _; exact if_pos rfl
theorem inv_last (c : Dev nD) : (dat0 m c).Φ t0_0.succ = after_ m c := by
  show (if (t0_0.succ : Fin (cfg0.N + 1)).val = 0 then before_ m c else after_ m c) = _; exact if_neg (Nat.succ_ne_zero _)
theorem owed_first (c : Dev nD) : (dat0 m c).owed t0_0.castSucc = O₀ c := by
  show (if (t0_0.castSucc : Fin (cfg0.N + 1)).val = 0 then O₀ c else 0) = _; exact if_pos rfl
theorem owed_last (c : Dev nD) : (dat0 m c).owed t0_0.succ = 0 := by
  show (if (t0_0.succ : Fin (cfg0.N + 1)).val = 0 then O₀ c else 0) = _; exact if_neg (Nat.succ_ne_zero _)

theorem owes_out (c : Dev nD) : ((dat0 m c).owesAt () t0_0.castSucc : sProp 𝕄) ⊢ iprop(∃ W, owes (c : Thread nD τ) (O₀ c) W) := by
  unfold Pipeline.Dat.owesAt Pipeline.owesWithin
  rw [owed_first]
  iintro ⟨%W, -, H⟩
  iexists W; iexact H
theorem owes_in (c : Dev nD) : iprop(∃ W, owes (c : Thread nD τ) 0 W) ⊢ ((dat0 m c).owesAt () t0_0.succ : sProp 𝕄) := by
  unfold Pipeline.Dat.owesAt Pipeline.owesWithin
  rw [owed_last]
  iintro ⟨%W, H⟩
  iexists W
  isplitr; · ipureintro; exact fun _ _ => Or.inl trivial
  iexact H

theorem no_window {M : Type} [URA M] (Φ : Fin 0 → sProp M) : bigSep Finset.univ Φ = (BI.emp : sProp M) :=
  bigSep_univ_eq_bigSepL [] (by decide) (by decide) Φ

set_option maxHeartbeats 1000000 in
/-- The point: the buffers are cut, the exchange runs, they are joined, and the cells are closed. -/
theorem point0 (c : Dev nD) :
    iprop(before_ m c ∗ ∃ W, owes (c : Thread nD τ) (O₀ c) W)
    ⊢ wp frame (wpE (defs₀ (F := F)) 𝒱₀ (c : Thread nD τ) none) Set.univ (bodyAt0 t0_0)
        (fun _ => iprop(after_ m c ∗ ∃ W, owes (c : Thread nD τ) 0 W)) := by
  unfold before_ after_ opened
  rw [scoped_eq, held_left, held_left]
  have h1 : W1 m c (Proc.devRef .tc main_arg0) = m (c, main_arg0) := W1_of m c main_arg0 (by decide)
  have h2 : W1 m c (Proc.devRef .tc main_arg1) = m (c, main_arg1) := W1_of m c main_arg1 (by decide)
  rw [h1, h2, W1_v1]
  iintro ⟨⟨⟨Hs, Hoth⟩, Hr, ⟨Hx, Hw, Ho⟩, ⟨%K, ⟨#HR, #HF, #Hl⟩, Hp, Ht, Hc, Hcp⟩⟩, ⟨%W, HO⟩⟩
  ihave Hs := (scratch_cut c) $$ Hs
  ihave Hxw := (reads_cut m c) $$ [Hx Hw]
  · isplitl [Hx]; · iexact Hx
    iexact Hw
  icases Hxw with ⟨Hrest, Hreads⟩
  ihave Hrun := (exchange m K c W _) $$ [Hreads Hs Hcp Ht Hc Hp Ho HO]
  · isplitr
    · isplitr; · iexact HR
      isplitr; · iexact HF
      iexact Hl
    isplitl [Hreads]; · iexact Hreads
    isplitl [Hs]; · iexact Hs
    isplitl [Hcp]; · iexact Hcp
    isplitl [Ht]; · iexact Ht
    isplitl [Hc]; · iexact Hc
    isplitl [Hp]; · iexact Hp
    isplitl [Ho]; · iexact Ho
    iexact HO
  iapply wp_fupd
  iapply (wp_wand _ _ _) $$ Hrun
  iintro %_ ⟨Hreads, Hs, Hcp, Hp, Ho, HO⟩
  imod (closing m K c) $$ [Hp Hcp] with ⟨Hown, Hb⟩
  · isplitr; · iexact HR
    isplitl [Hp] <;> iassumption
  ihave Hs := (scratch_join c) $$ Hs
  ihave Hxw := (reads_join m c) $$ [Hrest Hreads]
  · isplitl [Hrest] <;> iassumption
  icases Hxw with ⟨Hx, Hw⟩
  imodintro
  isplitr [HO]
  · isplitl [Hs Hoth]
    · isplitl [Hs] <;> iassumption
    isplitl [Hr]; · iexact Hr
    isplitl [Hx Hw Ho]
    · isplitl [Hx]; · iexact Hx
      isplitl [Hw] <;> iassumption
    isplitl [Hown] <;> iassumption
  iexact HO

/-- The body's obligation. -/
theorem body0 (c : Dev nD) : Pipeline.BodyObligation (dat0 m c) defs₀ 𝒱₀ () Set.univ := fun t => by
  obtain rfl := fin_N0 t
  rw [no_window, no_window, inv_first, inv_last]
  show _ ⊢ wp frame (wpE (defs₀ (F := F)) 𝒱₀ (c : Thread nD τ) none) Set.univ (bodyAt0 t0_0) _
  iintro ⟨HΦ, HO, -⟩
  ihave HO := (owes_out m c) $$ HO
  ihave Hrun := (point0 m c) $$ [HΦ HO]
  · isplitl [HΦ] <;> iassumption
  iapply (wp_wand _ _ _) $$ Hrun
  iintro %_ ⟨HΦ, HO⟩
  isplitl [HΦ]; · iexact HΦ
  isplitl [HO]; · iapply (owes_in m c) $$ HO
  iempintro

end Cert.KernelIdeal.Exch

end
-- ==== Proof.Regions.lean ====
/-
  The two regions as segments of @main: what each is entered with and what it leaves.
-/
module

public import proofs.«01_k».proof.Proof.Region0
public import proofs.«01_k».proof.Proof.Gen.KernelIdeal.Regions
public import Idealize.ShloMosaic.Lib.Pipeline.RegionTalk
public import Idealize.ShloMosaic.Lib.Pipeline.RegionArraysS

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- Both regions' data. -/
def pdats : (p : Fin 2) → (c : Dev nD) → Pipeline.Dat τ (Elt F) Unit ℕ UU ℕ (Pipeline.pin (pcfgs (F := F)) adm p) c :=
  fun | 0 => dat0 m | 1 => dat1 m | ⟨_ + 2, h⟩ => absurd h (Nat.not_lt.2 (Nat.le_add_left _ _))

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- What is owed is owed at barrier and receive cells, above the level of every staging wait. -/
theorem owe_at (c : Dev nD) (g : GSem nD τ sig) (u : Unit) (h : 0 < O₀ c g u) : u ∈ L g ∧ (0 : ℕ) < lv g u := by
  suffices h : ∀ n, 0 < oweB c n g u → g.1.2 = .tc ∧ (kind g.2 = 0 ∨ kind g.2 = 2) by
    obtain ⟨h1, h2⟩ := h 7 ‹_›
    refine ⟨by unfold L; rw [if_pos h1]; exact Finset.mem_singleton_self _, ?_⟩
    unfold lv
    rcases h2 with h2 | h2 <;> rw [h2] <;> decide
  intro n
  induction n with
  | zero => exact fun h => ⟨(oweR_at c 7 g u h).1, .inr (oweR_at c 7 g u h).2⟩
  | succ n ih =>
    intro h
    by_cases h1 : 0 < oweB c n g u
    · exact ih h1
    · have e : oweB c (n + 1) g u = oweB c n g u + tallyAt (barCell (fwd c (nextStep n))) () 1 g u := rfl
      rw [e, tallyAt_apply] at h
      split at h
      · next hg => obtain ⟨rfl, -⟩ := hg; exact ⟨rfl, .inl rfl⟩
      · exact absurd h h1

theorem cut0 (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · exact owe_at c g i h
  · exact absurd h (Nat.lt_irrefl 0)

theorem owed0_last (c : Dev nD) : (pdats m 0 c).owed (Fin.last (Pipeline.pin (pcfgs (F := F)) adm 0).N) = 0 := owed_last m c
theorem Φ0_last (c : Dev nD) : (pdats m 0 c).Φ (Fin.last (Pipeline.pin (pcfgs (F := F)) adm 0).N) = after_ m c := inv_last m c

theorem other_kept (c : Dev nD) : ∀ b ∈ Pipeline.ucRefs τ sig \ left, W1 m c b = W0 m c b := fun b hb =>
  Function.update_of_ne (fun e => (Finset.mem_sdiff.mp hb).2 (by rw [e]; decide)) _ _

/-- The barrier's counter at rest. -/
def rest (c : Dev nD) : sProp 𝕄 := semVal (barCell c) 0

set_option backward.isDefEq.respectTransparency.types false in
/-- The exchange. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts (cfg0.spec) osem0)
    left (Pipeline.ucRefs τ sig) left_sub kit0 rfl (fun c => (body0 m c).loose)
    (fun _ => 0) O₀ (fun c => (owed_first m c).trans (zero_add _).symm) (owed0_last m) (fun _ => rfl) (fun _ w => w.elim0)
    (W0 m) (W1 m) (other_kept m) (given m) rest (opened m) rest (opening m)
    (fun c => .rfl) (fun c => Entails.of_eq (Φ0_last m c)) (fun c => by iintro H; imodintro; iexact H)
    (fun _ => 0) ⟨fun _ w => w.elim0, fun _ w => w.elim0, fun c t g i h => cut0 m c t g i h⟩ (fun _ => iprop(emp))
    (fun _ w => w.elim0) (fun _ w => w.elim0)

set_option backward.isDefEq.respectTransparency.types false in
/-- The epilogue: nothing owed, the barrier's counter riding along. -/
def reg1 : Pipeline.RegionSeg (pcfgs (F := F)) adm (pdats m) () defs₀ 𝒱₀ L lv 1 :=
  Pipeline.RegionSeg.ofHeldIn (pcfgs (F := F)) adm (pdats m) () defs₀ 𝒱₀ L lv 1 (fun _ => 0) (Pipeline.ucRefs τ sig)
    (fun _ => iprop(emp)) (fun _ => iprop(emp)) kit1 rfl (fun c => (body1 m c).loose) (fun _ _ => rfl) (fun _ => rfl) (fun _ _ => ite_self _)
    (fun _ => .rfl) (fun _ => .rfl) (fun _ => 2)
    ⟨fun c w s => by rw [L_tc]; exact Finset.mem_singleton_self _, fun c w s => by unfold lv; split <;> [decide; split <;> decide],
      fun _ _ _ h => absurd h (Nat.lt_irrefl 0)⟩
    rest (W1 m) (fun c w => match w with | 0 => rfl | 1 => rfl | 2 => rfl | 3 => rfl | ⟨_ + 4, h⟩ => absurd h (Nat.not_lt.2 (Nat.le_add_left _ _)))

/-! ## The segments' ends -/

/-- Between two segments: every unscoped buffer at a valuation, and the rest. -/
abbrev state (V : Dev nD → Valuation τ sig (Elt F)) (R : Dev nD → sProp 𝕄) (c : Dev nD) : sProp 𝕄 :=
  iprop(StableHlo.held (c : Thread nD τ) (Pipeline.ucRefs τ sig) (V c) ∗ R c)
/-- The rest at launch. -/
def start (c : Dev nD) : sProp 𝕄 :=
  iprop(given m c ∗ (∃ r, prngReg c r) ∗ ∃ W, owes (c : Thread nD τ) (O₀ c) W)
/-- The buffers at the end. -/
def V2 (c : Dev nD) : Valuation τ sig (Elt F) := Pipeline.afterRegion (pdats m 1 c) (W1 m c)

theorem held_none (c : Dev nD) (W : Valuation τ sig (Elt F)) :
    (StableHlo.held (c.tc : Thread nD τ) (Pipeline.arrRefs (τ := τ) (pcfgs (F := F) 0).spec) W : sProp 𝕄) = BI.emp := by
  have h : Pipeline.arrRefs (τ := τ) (pcfgs (F := F) 0).spec = ∅ := by
    unfold Pipeline.arrRefs
    rw [Finset.map_eq_empty, Finset.image_eq_empty]
    exact Finset.univ_eq_empty (α := Fin 0)
  unfold StableHlo.held
  rw [h]
  exact BI.bigSep_empty

theorem enter0 (c : Dev nD) : state (W0 m) (start m) c ⊢ (reg0 m).pre c := by
  show _ ⊢ iprop(StableHlo.held (c.tc : Thread nD τ) (Pipeline.arrRefs (τ := τ) (pcfgs (F := F) 0).spec) (W0 m c) ∗ (∃ r, prngReg c r)
    ∗ (StableHlo.held (c.tc : Thread nD τ) (Pipeline.ucRefs τ sig) (W0 m c) ∗ emp) ∗ given m c ∗ ∃ Wd, owes (c : Thread nD τ) (0 + O₀ c) Wd)
  rw [held_none, zero_add]
  unfold state start
  iintro ⟨Hh, Hg, Hr, HO⟩
  isplitr; · iempintro
  isplitl [Hr]; · iexact Hr
  isplitl [Hh]
  · isplitl [Hh]; · iexact Hh
    iempintro
  isplitl [Hg]; · iexact Hg
  iexact HO

theorem arr1_sub : Pipeline.arrRefs (τ := τ) spec1 ⊆ Pipeline.ucRefs τ sig := Pipeline.arrRefs_sub_ucRefs spec1 winFacts1.arr_unscoped

theorem between (c : Dev nD) : (reg0 m).post c ⊢ (reg1 m).pre c := by
  refine BIBase.Entails.trans ?_ (Pipeline.RegionSeg.ofHeldIn_pre arr1_sub c)
  show iprop(StableHlo.held (c.tc : Thread nD τ) (Pipeline.arrRefs (τ := τ) (pcfgs (F := F) 0).spec) (W1 m c) ∗ (∃ r, prngReg c r)
    ∗ (StableHlo.held (c.tc : Thread nD τ) (Pipeline.ucRefs τ sig) (W1 m c) ∗ emp) ∗ rest c ∗ ∃ Wd, owes (c : Thread nD τ) (0 : CellTallies nD τ sig Unit) Wd) ⊢ _
  iintro ⟨-, -, ⟨Hh, -⟩, Hb, HO⟩
  isplitl [Hh]; · iexact Hh
  isplitl [HO]; · iexact HO
  isplitr; · iempintro
  iexact Hb

theorem leave1 (c : Dev nD) : (reg1 m).post c
    ⊢ iprop(state (V2 m) rest c ∗ ∃ W, owes (c : Thread nD τ) (0 : CellTallies nD τ sig Unit) W) := by
  refine BIBase.Entails.trans (Pipeline.RegionSeg.ofHeldIn_post arr1_sub c) ?_
  unfold state V2
  iintro ⟨Hh, HO, -, Hb⟩
  isplitr [HO]
  · isplitl [Hh] <;> iassumption
  iexact HO

/-- The result at the end, and the arguments as they were. -/
theorem V2_result (c : Dev nD) : V2 m c (Proc.devRef .tc main_v2) = yV m c :=
  (Pipeline.afterRegion_arr (pdats m 1 c) (W1 m c) winFacts1.arr_inj (3 : Fin 4)).trans (after3 m c)
theorem V2_kept (c : Dev nD) (r : Ref sig .tc) (h1 : r ≠ main_v1) (h : ∀ w : Fin 4, Pipeline.arrRef spec1 w = r → (cfg1.win w).isOut = false) :
    V2 m c (Proc.devRef .tc r) = m (c, Proc.devRef .tc r) :=
  (Pipeline.afterRegion_keeps (dat1 m c) (W1 m c) winFacts1.arr_inj
    (fun w => match w with | 0 => rfl | 1 => rfl | 2 => rfl | 3 => rfl | ⟨_ + 4, h⟩ => absurd h (Nat.not_lt.2 (Nat.le_add_left _ _))) r h).trans (W1_of m c r h1)

end Cert.KernelIdeal.Exch

end
-- ==== Proof.Start.lean ====
/-
  The launch: every cell is given its record (the barriers' with their counters, the send and receive cells waiting to be
  opened), every right to deliver goes to the device that delivers, and every device is credited what its peers owe it.
-/
module

public import proofs.«01_k».proof.Proof.Regions

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

/-! ## The cells and the rights to deliver, as sets -/

theorem send_inj : Function.Injective fun k : Fin 7 => (SemLoc.dma (sendS k) : SemLoc sig) := by decide
theorem recv_inj : Function.Injective fun k : Fin 7 => (SemLoc.dma (recvS k) : SemLoc sig) := by decide

def barE : Dev nD ↪ GSem nD τ sig := ⟨fun c => barCell c, fun _ _ h => congrArg (fun g : GSem nD τ sig => g.1.1) h⟩
def sendE : Dev nD × Fin 7 ↪ GSem nD τ sig := ⟨fun p => sendCell p.1 p.2, fun _ _ h =>
  Prod.ext (congrArg (fun g : GSem nD τ sig => g.1.1) h) (send_inj (congrArg Prod.snd h))⟩
def recvE : Dev nD × Fin 7 ↪ GSem nD τ sig := ⟨fun p => recvCell p.1 p.2, fun _ _ h =>
  Prod.ext (congrArg (fun g : GSem nD τ sig => g.1.1) h) (recv_inj (congrArg Prod.snd h))⟩

abbrev barCells : Finset (GSem nD τ sig) := Finset.univ.map barE
abbrev sendCells : Finset (GSem nD τ sig) := Finset.univ.map sendE
abbrev recvCells : Finset (GSem nD τ sig) := Finset.univ.map recvE

theorem kind_barCells {g : GSem nD τ sig} (h : g ∈ barCells) : kind g.2 = 0 := by
  obtain ⟨c, -, rfl⟩ := Finset.mem_map.mp h; rfl
theorem kind_sendCells {g : GSem nD τ sig} (h : g ∈ sendCells) : kind g.2 = 1 := by
  obtain ⟨c, -, rfl⟩ := Finset.mem_map.mp h; exact kind_send _
theorem kind_recvCells {g : GSem nD τ sig} (h : g ∈ recvCells) : kind g.2 = 2 := by
  obtain ⟨c, -, rfl⟩ := Finset.mem_map.mp h; exact kind_recv _

theorem send_recv_apart : Disjoint sendCells recvCells :=
  Finset.disjoint_left.mpr fun g h h' => absurd ((kind_sendCells h).symm.trans (kind_recvCells h')) (by decide)
theorem bar_apart : Disjoint barCells (sendCells ∪ recvCells) :=
  Finset.disjoint_left.mpr fun g h h' => by
    rcases Finset.mem_union.mp h' with h' | h'
    · exact absurd ((kind_barCells h).symm.trans (kind_sendCells h')) (by decide)
    · exact absurd ((kind_barCells h).symm.trans (kind_recvCells h')) (by decide)

/-- A right to deliver is a cell, a round and a duty: seven on each barrier, one on each other cell, all in round 0. -/
abbrev Right : Type := GSem nD τ sig × ℕ × Fin 7
def barR : Dev nD × Fin 7 ↪ Right := ⟨fun p => (barCell p.1, 0, p.2), fun _ _ h =>
  Prod.ext (congrArg (fun t : Right => t.1.1.1) h) (congrArg (fun t : Right => t.2.2) h)⟩
def sendR : Dev nD × Fin 7 ↪ Right := ⟨fun p => (sendE p, 0, 0), fun _ _ h => sendE.injective (congrArg Prod.fst h)⟩
def recvR : Dev nD × Fin 7 ↪ Right := ⟨fun p => (recvE p, 0, 0), fun _ _ h => recvE.injective (congrArg Prod.fst h)⟩

def barRights : Finset Right := Finset.univ.map barR
def sendRights : Finset Right := Finset.univ.map sendR
def recvRights : Finset Right := Finset.univ.map recvR

theorem kind_barRights {t : Right} (h : t ∈ barRights) : kind t.1.2 = 0 := by
  obtain ⟨p, -, rfl⟩ := Finset.mem_map.mp h; rfl
theorem kind_sendRights {t : Right} (h : t ∈ sendRights) : kind t.1.2 = 1 := by
  obtain ⟨p, -, rfl⟩ := Finset.mem_map.mp h; exact kind_send _
theorem kind_recvRights {t : Right} (h : t ∈ recvRights) : kind t.1.2 = 2 := by
  obtain ⟨p, -, rfl⟩ := Finset.mem_map.mp h; exact kind_recv _

theorem send_recv_rights : Disjoint sendRights recvRights :=
  Finset.disjoint_left.mpr fun g h h' => absurd ((kind_sendRights h).symm.trans (kind_recvRights h')) (by decide)
theorem bar_rights : Disjoint barRights (sendRights ∪ recvRights) :=
  Finset.disjoint_left.mpr fun g h h' => by
    rcases Finset.mem_union.mp h' with h' | h'
    · exact absurd ((kind_barRights h).symm.trans (kind_sendRights h')) (by decide)
    · exact absurd ((kind_barRights h).symm.trans (kind_recvRights h')) (by decide)

/-! ## Every right to the device that delivers -/

/-- The device at step `k`'s end, and the step that leads back: twice is nothing. -/
def there : Dev nD × Fin 7 ≃ Dev nD × Fin 7 where
  toFun p := (fwd p.1 p.2, opp p.2)
  invFun p := (fwd p.1 p.2, opp p.2)
  left_inv p := Prod.ext (fwd_opp p.1 p.2) (opp_opp p.2)
  right_inv p := Prod.ext (fwd_opp p.1 p.2) (opp_opp p.2)
/-- The device at step `k`'s end, at the same step. -/
def ahead : Dev nD × Fin 7 ≃ Dev nD × Fin 7 where
  toFun p := (fwd p.1 p.2, p.2)
  invFun p := (bwd p.1 p.2, p.2)
  left_inv p := Prod.ext (bwd_fwd p.1 p.2) rfl
  right_inv p := Prod.ext (fwd_bwd p.1 p.2) rfl

theorem bigSep_both {I : Type} [DecidableEq I] {s t : Finset I} (h : Disjoint s t) (Φ : I → sProp 𝕄) :
    bigSep (s ∪ t) Φ = iprop(bigSep s Φ ∗ bigSep t Φ) := BI.bigSep_union h

theorem rights_dealt :
    (bigSep (barRights ∪ (sendRights ∪ recvRights)) fun t => (dutyTok ER t.1 t.2.1 t.2.2 : sProp 𝕄)) = bigSep Finset.univ fun c : Dev nD => tokens (F := F) c := by
  unfold tokens
  rw [bigSep_both bar_rights, bigSep_both send_recv_rights, bigSep_sep', bigSep_sep']
  unfold barRights sendRights recvRights
  rw [bigSep_map, bigSep_map, bigSep_map]
  have e1 := (bigSep_univ_equiv there fun p : Dev nD × Fin 7 => (dutyTok ER (barCell p.1) 0 p.2 : sProp 𝕄)).trans (bigSep_univ_prod _)
  have e2 := bigSep_univ_prod fun p : Dev nD × Fin 7 => (dutyTok ER (sendCell p.1 p.2) 0 (0 : Fin 7) : sProp 𝕄)
  have e3 := (bigSep_univ_equiv ahead fun p : Dev nD × Fin 7 => (dutyTok ER (recvCell p.1 p.2) 0 (0 : Fin 7) : sProp 𝕄)).trans (bigSep_univ_prod _)
  exact congrArg₂ _ e1 (congrArg₂ _ e2 e3)

/-! ## What the peers owe -/

theorem O₀_sum (c : Dev nD) : O₀ c = (∑ k : Fin 7, tallyAt (recvCell (fwd c k) k) () N) + ∑ k : Fin 7, tallyAt (barCell (fwd c k)) () 1 := by
  unfold O₀
  rw [oweB_step c (j := 6) (k := 0) rfl, oweB_step c (j := 5) (k := 1) rfl, oweB_step c (j := 4) (k := 2) rfl, oweB_step c (j := 3) (k := 3) rfl,
    oweB_step c (j := 2) (k := 4) rfl, oweB_step c (j := 1) (k := 5) rfl, oweB_step c (j := 0) (k := 6) rfl, show oweB c 0 = oweR c 7 from rfl,
    oweR_step c (j := 6) (k := 0) rfl, oweR_step c (j := 5) (k := 1) rfl, oweR_step c (j := 4) (k := 2) rfl, oweR_step c (j := 3) (k := 3) rfl,
    oweR_step c (j := 2) (k := 4) rfl, oweR_step c (j := 1) (k := 5) rfl, oweR_step c (j := 0) (k := 6) rfl, oweR_none, Fin.sum_univ_seven, Fin.sum_univ_seven, zero_add]
  ac_rfl

/-- What device `c`'s cells are owed. -/
def due (c : Dev nD) : CellTallies nD τ sig Unit := tallyAt (barCell c) () 7 + ∑ k : Fin 7, tallyAt (recvCell c k) () N

theorem due_total : (∑ d : Dev nD, O₀ d) = ∑ d : Dev nD, due d := by
  have h7 (c : Dev nD) : (tallyAt (barCell c) () 7 : CellTallies nD τ sig Unit) = ∑ k : Fin 7, tallyAt (barCell c) () 1 := by
    rw [Fin.sum_univ_seven, tallyAt_add, tallyAt_add, tallyAt_add, tallyAt_add, tallyAt_add, tallyAt_add]
  unfold due
  simp only [O₀_sum, h7, Finset.sum_add_distrib]
  rw [Finset.sum_comm, Finset.sum_comm (f := fun (d : Dev nD) (k : Fin 7) => (tallyAt (barCell (fwd d k)) () 1 : CellTallies nD τ sig Unit)),
    Finset.sum_comm (f := fun (d : Dev nD) (k : Fin 7) => (tallyAt (barCell d) () 1 : CellTallies nD τ sig Unit)),
    Finset.sum_comm (f := fun (d : Dev nD) (k : Fin 7) => (tallyAt (recvCell d k) () N : CellTallies nD τ sig Unit)), add_comm]
  exact congrArg₂ _ (Finset.sum_congr rfl fun k _ => (shift k).sum_comp fun d => (tallyAt (barCell d) () 1 : CellTallies nD τ sig Unit))
    (Finset.sum_congr rfl fun k _ => (shift k).sum_comp fun d => (tallyAt (recvCell d k) () N : CellTallies nD τ sig Unit))

theorem due_at (c : Dev nD) (g : GSem nD τ sig) (h : due c g ≠ 0) : g.1 = (c : Thread nD τ) := by
  by_contra hg
  refine h ?_
  have h1 (sm : SemLoc sig) (n : ℕ) : (tallyAt (((c : Thread nD τ), sm) : GSem nD τ sig) () n : CellTallies nD τ sig Unit) g = 0 :=
    tallyAt_ne_cell (fun e => hg (congrArg Prod.fst e)) _ _
  unfold due
  rw [Pi.add_apply, Finset.sum_apply, h1, zero_add]
  exact Finset.sum_eq_zero fun k _ => h1 _ _

theorem credited (c : Dev nD) : (Pipeline.launchCred O₀ c : sProp 𝕄) ⊢ credits (F := F) c := by
  rw [Pipeline.launchCred_of_sum O₀ due due_total due_at c]
  unfold due credits
  rw [← Pipeline.cred_finsetSum]
  exact (cred_add _ _).1

/-! ## The launch -/

/-- The exchange's state at launch. -/
def g₀ : UB := launchOf barCells (sendCells ∪ recvCells) (barRights ∪ (sendRights ∪ recvRights))
def u₀ : UU :=
  (initOf (Pipeline.cells (Pipeline.pin (pcfgs (F := F)) adm) cellOf_inj) (Pipeline.launchToks (Pipeline.pin (pcfgs (F := F)) adm) cellOf_inj), (g₀, 1))

/-- It is kept whole, at device 0, until all devices' holdings are together. -/
def G (c : Dev nD) : sProp 𝕄 := if c = 0 then BI.own (ER (F := F) g₀) else iprop(emp)
theorem G_all : (bigSep Finset.univ fun c : Dev nD => G (F := F) c) = BI.own (ER (F := F) g₀) := by
  unfold G
  rw [bigSep_univ_at _ (0 : Dev nD), bigSep_congr (s := Finset.univ.erase (0 : Dev nD)) (Ψ := fun _ => (BI.emp : sProp 𝕄))
      fun c hc => by rw [if_neg (Finset.ne_of_mem_erase hc)]; rfl, BI.bigSep_emp_const, if_pos rfl]
  exact BI.equiv_iff.mp sep_emp

theorem launch_owned : (ownU (u₀ (F := F)) : sProp 𝕄) ⊢ |={Set.univ}=> iprop(BI.own (EP (F := F) (initOf
      (Pipeline.cells (Pipeline.pin (pcfgs (F := F)) adm) cellOf_inj) (Pipeline.launchToks (Pipeline.pin (pcfgs (F := F)) adm) cellOf_inj)))
    ∗ bigSep Finset.univ (G (F := F))) := by
  unfold u₀
  rw [show bigSep Finset.univ (G (F := F)) = BI.own (ER (F := F) g₀) from G_all]
  iintro H
  ihave H := (ownU_pair _ _) $$ H
  icases H with ⟨HP, HX⟩
  imodintro
  isplitl [HP]; · iexact HP
  iapply (show (BI.own (embR (g₀, (1 : Counters))) : sProp 𝕄) ⊢ BI.own (ER (F := F) g₀) from Entails.of_eq rfl)
  iexact HX

theorem bar_counter (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

end Cert.KernelIdeal.Exch

end
-- ==== Proof.Run.lean ====
/-
  The run of @main on the eight devices, over any floats: it ends, the arguments are as they were, each device's result is
  `yV`, and every counter is at zero.
-/
module

public import proofs.«01_k».proof.Proof.Start

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

/-! ## Every device's start -/

/-- The records of all the cells, out of the launch's one list of them. -/
theorem records_of (κ : GSem nD τ sig → ℕ) :
    iprop((bigSep (barCells ∪ (sendCells ∪ recvCells)) fun g => cellInv ER (exRd m) (κ g) g) ∗ bigSep barCells fun g => reached ER g 0) ⊢ records m κ := by
  rw [bigSep_both bar_apart, bigSep_both send_recv_apart]
  unfold records
  rw [bigSep_sep', bigSep_map, bigSep_map, bigSep_map, bigSep_map]
  iintro ⟨⟨HB, HS, HV⟩, HR⟩
  isplitl [HB HR]
  · isplitl [HB]; · iexact HB
    iexact HR
  isplitl [HS]; · iexact HS
  iexact HV

/-- What is one device's alone of the exchange's state. -/
def own_ (c : Dev nD) : sProp 𝕄 :=
  iprop((atPos ER (barCell c) 0 ∅ 0 ∗ bigSep Finset.univ (fun k : Fin 7 => openTok ER (sendCell c k)) ∗ bigSep Finset.univ (fun k : Fin 7 => openTok ER (recvCell c k)))
    ∗ tokens (F := F) c)
/-- What it holds besides. -/
def hold (c : Dev nD) : sProp 𝕄 :=
  iprop(StableHlo.held (c : Thread nD τ) (Pipeline.ucRefs τ sig) (W0 m c) ∗ credits (F := F) c ∗ owes (c : Thread nD τ) (O₀ c) ∅ ∗ ∃ r, prngReg c r)

theorem start_of (κ : GSem nD τ sig → ℕ) (c : Dev nD) : iprop(records m κ ∗ own_ (F := F) c ∗ hold m c) ⊢ state (W0 m) (start m) c := by
  unfold own_ hold state start given
  iintro ⟨#HR, ⟨Hp, Ht⟩, Hh, Hc, HO, Hr⟩
  isplitl [Hh]; · iexact Hh
  isplitl [Hp Ht Hc]
  · iexists κ
    isplitr; · iexact HR
    isplitl [Hp]; · iexact Hp
    isplitl [Ht] <;> iassumption
  isplitl [Hr]; · iexact Hr
  iexists ∅; iexact HO

theorem own_all :
    iprop((bigSep barCells fun g => (atPos ER g 0 ∅ 0 : sProp 𝕄)) ∗ (bigSep (sendCells ∪ recvCells) fun g => openTok ER g)
      ∗ bigSep (barRights ∪ (sendRights ∪ recvRights)) fun t => dutyTok ER t.1 t.2.1 t.2.2) ⊢ bigSep Finset.univ fun c : Dev nD => own_ (F := F) c := by
  unfold own_
  rw [rights_dealt, bigSep_both send_recv_apart, bigSep_map, bigSep_map, bigSep_map, bigSep_univ_prod, bigSep_univ_prod, bigSep_sep', bigSep_sep', bigSep_sep']
  iintro ⟨Ha, ⟨HS, HV⟩, Ht⟩
  isplitr [Ht]
  · isplitl [Ha]; · iexact Ha
    isplitl [HS]; · iexact HS
    iexact HV
  iexact Ht

theorem launched : iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G (F := F) c)) ∗ levAts L lv)
    ⊢ (|={Set.univ}=> bigSep Finset.univ (state (W0 m) (start m)) : sProp 𝕄) := by
  have hc (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(hold m c ∗ semVal (barCell c) 0 ∗ G (F := F) c) : sProp 𝕄) := by
    rw [show unscopedBufs c (fun b => m ((c : Thread nD τ).loc b)) = StableHlo.held (c : Thread nD τ) (Pipeline.ucRefs τ sig) (W0 m c)
        from Pipeline.unscopedBufs_held c (W0 m c), bar_counter]
    unfold hold
    iintro ⟨Hh, Hs, HO, Hc, Hr, HG⟩
    ihave Hc := (credited c) $$ Hc
    isplitr [Hs HG]
    · isplitl [Hh]; · iexact Hh
      isplitl [Hc]; · iexact Hc
      isplitl [HO]; · iexact HO
      iexists (ρ c); iexact Hr
    isplitl [Hs] <;> iassumption
  have hs : (bigSep Finset.univ fun c : Dev nD => iprop(hold m c ∗ semVal (barCell c) 0 ∗ G (F := F) c))
      = (iprop((bigSep Finset.univ fun c : Dev nD => hold m c) ∗ (bigSep Finset.univ fun c : Dev nD => semVal (barCell c) 0) ∗ BI.own (ER (F := F) g₀)) : sProp 𝕄) := by
    rw [bigSep_sep', bigSep_sep', G_all]
  refine (BIClass.sep_mono ((bigSep_mono fun c _ => hc c).trans (Entails.of_eq hs)) .rfl).trans ?_
  iintro ⟨⟨Hh, Hs, HG⟩, -⟩
  unfold g₀
  imod (Rounds.fund_launch ER (exRd m) bar_apart (fun g _ h => h) (barRights ∪ (sendRights ∪ recvRights))) $$ [Hs HG] with ⟨%κ, -, #HI, #HR, Ha, Ho, Ht⟩
  · isplitl [Hs]
    · iapply (show (bigSep Finset.univ fun c : Dev nD => (semVal (barCell c) 0 : sProp 𝕄)) ⊢ bigSep barCells fun g => semVal g 0 from
        Entails.of_eq (bigSep_map (s := Finset.univ) barE (Φ := fun g => (semVal g 0 : sProp 𝕄))).symm) $$ Hs
    · iexact HG
  imodintro
  iapply (bigSep_with_persistent (R := records m κ) (Φ := fun c => iprop(own_ (F := F) c ∗ hold m c)) fun c _ => start_of m κ c)
  isplitr
  · iapply (records_of m κ)
    isplitr; · iexact HI
    iexact HR
  rw [bigSep_sep']
  isplitr [Hh]
  · iapply (own_all (F := F))
    isplitl [Ha]; · iexact Ha
    isplitl [Ho] <;> iassumption
  iexact Hh

/-! ## The run -/

theorem unscoped_bar : ∀ sm : SemLoc sig, sm.isScoped .tc = false → sm = .reg barS := by decide

/-- What the end says of device `c`: its arguments as they were, its result `yV`. -/
def ends (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v2) = yV m c

theorem in_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

theorem read_end (c : Dev nD) (s' : Phys nD τ sig (Elt F)) :
    iprop(state (V2 m) rest c ∗ SI s') ⊢ (|={Set.univ}=> iprop(⌜ends m c s'.mem ∧ s'.mem.sem (barCell c) = 0⌝ ∗ SI s') : sProp 𝕄) := by
  unfold state rest StableHlo.held
  iintro ⟨⟨Hh, Hb⟩, HSI⟩
  icombine HSI Hb gives %hb
  ihave Hr := (pointsTo_read_all (Pipeline.ucRefs τ sig) (fun b => ((c : Thread nD τ).1, b)) (V2 m c) s') $$ [Hh HSI]
  · isplitl [Hh] <;> iassumption
  icases Hr with ⟨%h, HSI⟩
  imodintro
  isplitr
  · ipureintro
    exact ⟨⟨(h _ (in_uc main_arg0 rfl)).trans (V2_kept m c main_arg0 (by decide) (by decide)), (h _ (in_uc main_arg1 rfl)).trans (V2_kept m c main_arg1 (by decide) (by decide)),
      (h _ (in_uc main_arg2 rfl)).trans (V2_kept m c main_arg2 (by decide) (by decide)), (h _ (in_uc main_arg3 rfl)).trans (V2_kept m c main_arg3 (by decide) (by decide)),
      (h _ (in_uc main_v2 rfl)).trans (V2_result m c)⟩, by simpa using hb⟩
  iexact HSI

set_option backward.isDefEq.respectTransparency.types false in
/-- From any memory with every counter at zero, every weakly fair execution of @main on the eight devices ends, with every
    device at its end and every counter at zero. -/
theorem run_main : θ_run defs (onTc (τ := τ) (main (F := F))) (⟨m, fun _ => 0, ρ⟩ : MemSt nD τ sig (Elt F))
    (fun r => (∀ c : Dev nD, ends m c r.2) ∧ r.2.sem = fun _ => 0) :=
  Pipeline.θ_run_regions_kit_sems (pcfgs (F := F)) adm (pdats m) () cellOf_inj EP defs₀ 𝒱₀ L lv m ρ main [.region (reg0 m), .region (reg1 m)]
    (fun c Q => by rw [main_segs adm (pdats m) () 𝒱₀ L lv (reg0 m) (reg1 m) c])
    (by simp only [Pipeline.Seg.pipes_region, Pipeline.Seg.pipes_nil]; decide)
    (O₀ := O₀) (hL := L_of_ne) (G := G) (u₀ := u₀ (F := F)) (hu₀ := launch_owned) (T₀ := state (W0 m) (start m)) (Tₙ := state (V2 m) rest)
    (hch := ⟨enter0 m, between m, leave1 m⟩) (hinit := launched m ρ)
    (QY := fun c s => ends m c s ∧ s.sem (barCell c) = 0) (hfin := read_end m)
    (hQ := fun s h hs => ⟨fun c => (h c).1, sem_eq_zero hs fun c sm hsm => by
      obtain rfl := unscoped_bar sm hsm
      exact (h c).2⟩)

end Cert.KernelIdeal.Exch

end
-- ==== Proof.Frames.lean ====
/-
  The claims that a program ends with its arguments as they were and every counter at zero. The kernel's two readings are one
  text, so both are the one run, over words and over exact numbers.
-/
module

public import proofs.«01_k».proof.Defs
public import proofs.«01_k».proof.Proof.Run
public import proofs.«01_k».proof.Proof.Gen.Kernel
public import proofs.«01_k».proof.Proof.Gen.ReferenceIdeal.Run

@[expose] public section

set_option maxRecDepth 16384

noncomputable section

namespace Cert.Proof

open Idealize.ShloMosaic Idealize.SL.Sem Idealize.ShloMosaic.TcCoe

/-- Over exact numbers: the run, its value dropped. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Exch.run_main (F := Ideal) m ρ)

/-- The two readings have the same function bodies: the exchange and the epilogue, whatever they are called with; -/
theorem bodies_eq : ∀ i a, Cert.Kernel.defs₀ (F := Bits) .tc i a = Cert.KernelIdeal.defs₀ (F := Bits) .tc i a
  | 0, _ => rfl
  | 1, _ => rfl

/-- on every processor; -/
theorem defs₀_eq : Cert.Kernel.defs₀ (F := Bits) = Cert.KernelIdeal.defs₀ (F := Bits) := by
  funext pr i a
  match pr with
  | .tc => exact bodies_eq i a
  | .scScalar _ => rfl
  | .scVector _ _ => rfl

/-- and so with the launches added. -/
theorem defs_eq : Cert.Kernel.defs (F := Bits) = Cert.KernelIdeal.defs (F := Bits) := by
  show Pipeline.defs (Cert.KernelIdeal.pcfgs (F := Bits)) (Cert.Kernel.defs₀ (F := Bits)) = _
  rw [defs₀_eq]; rfl

/-- The main functions have one text as well. -/
theorem main_eq : Cert.Kernel.main (F := Bits) = Cert.KernelIdeal.main (F := Bits) := rfl

/-- Over words: the same run. -/
theorem frame_kernel : Cert.quiescent_Kernel := fun m ρ _ => by
  rw [defs_eq, main_eq]
  exact (θ_run Cert.KernelIdeal.defs _ _).mono (fun _ h => ⟨fun c => ⟨(h.1 c).1, (h.1 c).2.1, (h.1 c).2.2.1, (h.1 c).2.2.2.1⟩, h.2⟩)
    (Cert.KernelIdeal.Exch.run_main (F := Bits) m ρ)

/-- The reference has no semaphore at all. -/
theorem frame_reference : Cert.quiescent_ReferenceIdeal := fun m ρ _ =>
  (θ_run Cert.ReferenceIdeal.defs _ _).mono (fun r h => ⟨fun c => (h c).2, sem_eq_zero_of_no_sems rfl _⟩)
    (Cert.ReferenceIdeal.Value.run (F := Ideal) m ρ)

end Cert.Proof

end
-- ==== Proof.Algebra.lean ====
/-
  Over exact numbers: device `c`'s result is block `c` of the reference's rows. A change of format is the identity there, so
  the eight products a device adds up are, entry by entry, the eight parts of one row of `x` times one column of `w`, taken in
  an order that depends on the device; the scaling and the clipped sigmoid then agree entry by entry.
-/
module

public import proofs.«01_k».proof.Proof.Epilogue
public import proofs.«01_k».proof.Proof.Gen.ReferenceIdeal.Run
public import Idealize.ShloMosaic.Lib.Layout
public import Idealize.ShloMosaic.Lib.IdealHost
public import Idealize.ShloMosaic.Lib.Pointwise

@[expose] public section

set_option maxRecDepth 16384
set_option backward.proofsInPublic true

noncomputable section

namespace Cert.KernelIdeal.Exch

open Cert.KernelIdeal Cert.KernelIdeal.Gen
open Idealize.ShloMosaic Idealize.ShloMosaic.TcCoe
open Idealize.ShloMosaic.ValueIdx hiding ix2 eq_ix2
open scoped BigOperators

/-! ## What the slices read -/

/-- The device whose rows of `w`, and whose columns of `x`, are multiplied `p`-th on device `c`. -/
def src (c p : Fin 8) : Fin 8 := c - p

/-- Where the slices of `x` begin: at step `i`, the rows of the device `i + 1` further on; -/
theorem xOff (c : Dev nD) (i : Fin 8) : k0_off1 c (BitVec.ofNat 32 i.val) = ![512 * ((c.val + i.val + 1) % 8), 0] := by
  revert c i; decide +kernel
/-- and those of `w`: for block `p`, the rows of device `c - p`. -/
theorem wOff (c : Dev nD) (p : Fin 8) : k0_off2 c (BitVec.ofNat 32 p.val) = ![512 * (src c p).val, 0] := by
  revert c p; decide +kernel

variable (m : (ℓ : Loc nD τ sig) → Buf (Elt Ideal) ℓ)
variable (X : (⟨2, ![4096, 4096]⟩ : Shape).Idx → EReal)

/-- Row `512 q + r` of the whole array, `q` a device and `r` a row of its block. -/
def row (q : Fin 8) (r : Fin 512) : Fin 4096 := ⟨512 * q.val + r.val, by omega⟩

/-- The slice of `x` that device `d` takes at step `i` reads the rows of device `d + i + 1`. -/
theorem xR_read (d : Dev nD) (i : Fin 8) (f : S4096x512.Idx → EReal) (r k : Fin 512) :
    (xR d i).view.read (Elt Ideal) f (ix2 r k) = f (ix2 (row ⟨(d.val + i.val + 1) % 8, Nat.mod_lt _ (by decide)⟩ r) k) := by
  have h := xOff d i
  refine congrArg f (funext fun a => Fin.ext ?_)
  have h0 := congrFun h 0
  have h1 := congrFun h 1
  match a with
  | 0 => show k0_off1 d (BitVec.ofNat 32 i.val) 0 + 1 * r.val = _; rw [h0, one_mul]; rfl
  | 1 => show k0_off1 d (BitVec.ofNat 32 i.val) 1 + 1 * k.val = _; rw [h1, one_mul]; exact Nat.zero_add _

/-- The slice of `w` that meets block `p` reads the rows of device `c - p`. -/
theorem wBlk_apply (c : Dev nD) (p : Fin 8) (k : Fin 512) (j : Fin 2048) :
    wBlk m c p (ix2 k j) = m (c, main_arg1) (ix2 (row (src c p) k) j) := by
  have h := wOff c p
  refine congrArg (m (c, main_arg1)) (funext fun a => Fin.ext ?_)
  have h0 := congrFun h 0
  have h1 := congrFun h 1
  match a with
  | 0 => show k0_off2 c (BitVec.ofNat 32 p.val) 0 + 1 * k.val = _; rw [h0, one_mul]; rfl
  | 1 => show k0_off2 c (BitVec.ofNat 32 p.val) 1 + 1 * j.val = _; rw [h1, one_mul]; exact Nat.zero_add _

/-- Each device holds its block of columns of `X`. -/
def Cut : Prop := ∀ c : Dev nD, m (c, main_arg0) = Layout.block ⟨2, ![4096, 512]⟩ ⟨2, ![4096, 4096]⟩ 1 8 c X

variable {m X}

/-- Column `k` of a device's block is its column of the whole. -/
theorem cut_apply (h : Cut m X) (c : Dev nD) (r : Fin 4096) (k : Fin 512) : m (c, main_arg0) (ix2 r k) = X (ix2 r (row c k)) := by
  rw [h c]
  refine congrArg X (funext fun a => Fin.ext ?_)
  match a with
  | 0 => rfl
  | 1 => exact congrArg (· + k.val) (Nat.mul_comm _ _)

/-- The last slice of `x` that a device takes is its own; -/
theorem own_dev (c : Dev nD) : (⟨(c.val + (7 : Fin 8).val + 1) % 8, Nat.mod_lt _ (by decide)⟩ : Fin 8) = c := by revert c; decide
/-- the one that reaches `c` at step `k` is of the rows of `c`, -/
theorem sent_dev (c : Dev nD) (k : Fin 7) :
    (⟨((bwd c k).val + k.castSucc.val + 1) % 8, Nat.mod_lt _ (by decide)⟩ : Fin 8) = c := by revert c k; decide
/-- and comes from the device whose rows of `w` meet block `k + 1`. -/
theorem bwd_src (c : Dev nD) (k : Fin 7) : bwd c k = src c k.succ := by revert c k; decide

/-- Block `p` of `c`'s landing buffer: the rows of device `c` and the columns of device `c - p`. -/
theorem gBlk_apply (h : Cut m X) (c : Dev nD) (p : Fin 8) (r k : Fin 512) :
    gBlk m c p (ix2 r k) = X (ix2 (row c r) (row (src c p) k)) := by
  refine Fin.cases ?_ (fun s => ?_) p
  · rw [gBlk_zero]
    refine ((xR_read c 7 _ r k).trans (cut_apply h c _ k)).trans ?_
    rw [own_dev, show src c 0 = c from sub_zero c]
  · rw [gBlk_succ]
    refine ((xR_read (bwd c s) s.castSucc _ r k).trans (cut_apply h (bwd c s) _ k)).trans ?_
    rw [sent_dev, bwd_src]

/-! ## The sum of the products -/

/-- An entry of the product of two blocks. -/
theorem prod_apply (g : FVec Ideal S512x512 .fp8e4m3) (w : FVec Ideal S512x2048 .f32) (r : Fin 512) (j : Fin 2048) :
    prod g w (ix2 r j) = ∑ k : Fin 512, g (ix2 r k) * w (ix2 k j) := by
  unfold prod
  pointwise

/-- A sum over 4096 rows, by devices and rows of a block, the devices in the order that `c` takes them. -/
theorem sum_rows (c : Fin 8) (f : Fin 4096 → EReal) : ∑ p : Fin 8, ∑ k : Fin 512, f (row (src c p) k) = ∑ i : Fin 4096, f i := by
  have h1 : ∑ p : Fin 8, ∑ k : Fin 512, f (row (src c p) k) = ∑ q : Fin 8, ∑ k : Fin 512, f (row q k) :=
    Equiv.sum_comp (Equiv.subLeft c) fun q => ∑ k : Fin 512, f (row q k)
  rw [h1, ← Fintype.sum_prod_type' fun q k => f (row q k)]
  exact Fintype.sum_equiv (finProdFinEquiv (m := 8) (n := 512)) _ f fun x => congrArg f (Fin.ext (Nat.add_comm _ _))

/-- The accumulator at the end: rows of device `c` of the whole product. -/
theorem acc_apply (h : Cut m X) (c : Dev nD) (r : Fin 512) (j : Fin 2048) :
    accV m c 7 (ix2 r j) = ∑ i : Fin 4096, X (ix2 (row c r) i) * m (c, main_arg1) (ix2 i j) := by
  have h1 : accV m c 7 (ix2 r j) = ∑ p : Fin 8, prod (gBlk m c p) (wBlk m c p) (ix2 r j) := by
    rw [Fin.sum_univ_eight]; rfl
  rw [h1, ← sum_rows c]
  refine Finset.sum_congr rfl fun p _ => (prod_apply _ _ r j).trans (Finset.sum_congr rfl fun k _ => ?_)
  rw [gBlk_apply h, wBlk_apply]

/-! ## The scaling and the sigmoid -/

/-- A number times the sigmoid of the number clipped to ±60. -/
def swish (y : EReal) : EReal :=
  y * Ideal.logistic (min (Ideal.ofBits .f32 0x42700000#32) (max (Ideal.ofBits .f32 0xC2700000#32) y))

/-- The quotient by one plus an exponential is the product with the sigmoid: the divisor isn't zero. -/
theorem swish_eq_div (y : EReal) :
    swish y = Ideal.div y (1 + Ideal.exp (-(min (Ideal.ofBits .f32 0x42700000#32) (max (Ideal.ofBits .f32 0xC2700000#32) y)))) := by
  refine Ideal.mul_one_div fun e => ?_
  generalize -(min (Ideal.ofBits .f32 0x42700000#32) (max (Ideal.ofBits .f32 0xC2700000#32) y)) = z at e
  have h : 0 ≤ Ideal.exp z := by
    induction z using EReal.rec with
    | bot => exact le_rfl
    | top => exact le_top
    | coe r => exact EReal.coe_nonneg.mpr (Real.exp_pos r).le
  exact absurd (e ▸ le_add_of_nonneg_right h : (1 : EReal) ≤ 0) (by simp)

/-- The kernel's epilogue at an entry. -/
theorem epilogue_apply (v : FVec Ideal S512x2048 .bf16) (s t : EReal) (i : S512x2048.Idx) :
    k1_pay1 (F := Ideal) v s t i = swish (v i * (s * t)) := by
  unfold k1_pay1 swish
  pointwise

/-- The reference's result from the whole arguments. -/
abbrev refV (X : FVec Ideal Cert.ReferenceIdeal.S4096x4096 .f32) (W : FVec Ideal Cert.ReferenceIdeal.S4096x2048 .f32)
    (s t : FVec Ideal Cert.ReferenceIdeal.S1 .f32) : FVec Ideal Cert.ReferenceIdeal.S4096x2048 .f32 :=
  let y := mulf (Host.dotGeneral Cert.ReferenceIdeal.dot_S4096x4096_S4096x2048_S4096x2048_1_0_0_1_n_n none X W)
    (broadcastInDim Cert.ReferenceIdeal.S4096x2048 ![0, 1] Cert.ReferenceIdeal.Facts₀.bcast_S1x1_S4096x2048_0_1
      (broadcastInDim Cert.ReferenceIdeal.S1x1 ![1] Cert.ReferenceIdeal.Facts₀.bcast_S1_S1x1_1 (mulf s t)))
  let whole (w : BitVec 32) := broadcastInDim Cert.ReferenceIdeal.S4096x2048 ![] Cert.ReferenceIdeal.Facts₀.bcast_S_S4096x2048 (constant Cert.ReferenceIdeal.S_ .f32 w)
  Host.divf y (addf (whole 0x3F800000#32) (Host.exp (Host.negf (minimumf (whole 0x42700000#32) (maximumf (whole 0xC2700000#32) y)))))

/-- The reference's result at an entry. -/
theorem refV_apply (X : FVec Ideal Cert.ReferenceIdeal.S4096x4096 .f32) (W : FVec Ideal Cert.ReferenceIdeal.S4096x2048 .f32)
    (s t : FVec Ideal Cert.ReferenceIdeal.S1 .f32) (i : Fin 4096) (j : Fin 2048) :
    refV X W s t (ix2 i j) = swish ((∑ k : Fin 4096, X (ix2 i k) * W (ix2 k j)) * (s only * t only)) := by
  rw [swish_eq_div]
  unfold refV
  pointwise
  rw [show Idealize.ShloMosaic.ix1 0 = only from eq_only _]

/-- Device `c`'s result is block `c` of the reference's. -/
theorem block_eq {W : FVec Ideal Cert.ReferenceIdeal.S4096x2048 .f32} {s t : FVec Ideal Cert.ReferenceIdeal.S1 .f32} (h : Cut m X) (c : Dev nD)
    (h1 : m (c, main_arg1) = W) (h2 : m (c, main_arg2) = s) (h3 : m (c, main_arg3) = t) :
    yV m c = Layout.block ⟨2, ![512, 2048]⟩ ⟨2, ![4096, 2048]⟩ 0 8 c (refV X W s t) := by
  funext i
  rw [eq_ix2 i]
  refine (epilogue_apply (outV m c) _ _ (ix2 (i 0) (i 1))).trans ?_
  rw [show outV m c (ix2 (i 0) (i 1)) = _ from acc_apply h c (i 0) (i 1), h1, h2, h3]
  refine (refV_apply X W s t (row c (i 0)) (i 1)).symm.trans (congrArg (refV X W s t) (funext fun a => Fin.ext ?_))
  match a with
  | 0 => exact congrArg (· + (i 0).val) (Nat.mul_comm _ _)
  | 1 => rfl

end Cert.KernelIdeal.Exch

end
-- ==== Proof.lean ====
/-
  The proof of every claim made: the kernel ends with its arguments as they were and every counter at zero, read over words
  and over exact numbers, and so does the reference; and over exact numbers each device's result is its block of rows of the
  reference's result.

  Proof/Protocol.lean says what the devices owe one another; Steps, Values, Pieces and Body run the first launch on one device
  by those rules; Cells, Region0 and Epilogue put the two launches in the form the whole program takes; Regions, Start and Run
  run it on eight devices at once. Frames drops the values of that run. Algebra compares them with the reference.
-/
module

public import proofs.«01_k».proof.Defs
public import proofs.«01_k».proof.Proof.Frames
public import proofs.«01_k».proof.Proof.Algebra

@[expose] public section

set_option maxRecDepth 16384

noncomputable section

namespace Cert.Proof

open Idealize.ShloMosaic Idealize.SL.Sem

/-- Over exact numbers, device `c`'s result is block `c` of the reference's result on the whole arguments. -/
theorem value : Cert.algebraic_KernelIdeal_ReferenceIdeal := fun m ρ m' ρ' _ h =>
  ⟨_, (θ_run Cert.KernelIdeal.defs _ _).mono
      (fun _ e c => ⟨(e.1 c).2.2.2.2.trans
          (Cert.KernelIdeal.Exch.block_eq (fun d => (h d).1) c (h c).2.1 (h c).2.2.1 (h c).2.2.2),
        (e.1 c).1, (e.1 c).2.1, (e.1 c).2.2.1, (e.1 c).2.2.2.1⟩)
      (Cert.KernelIdeal.Exch.run_main (F := Ideal) m ρ),
    (θ_run Cert.ReferenceIdeal.defs _ _).mono (fun _ e => e 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
